-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S128x32x32x2 : Shape := ⟨4, ![128, 32, 32, 2]⟩
abbrev S128x2 : Shape := ⟨2, ![128, 2]⟩
abbrev S_ : Shape := ⟨0, ![]⟩

class Facts : Prop where
  bcast_S_S128x2 : S_.BroadcastsInDim S128x2 (![] : Fin 0 → Fin S128x2.rank)
  reducesTo_S128x2_S_d0_1 : S128x2.ReducesTo [0, 1] S_
  h_S_ : 0 < S_.numel
  bcast_S_S128x32x32x2 : S_.BroadcastsInDim S128x32x32x2 (![] : Fin 0 → Fin S128x32x32x2.rank)
  reducesTo_S128x32x32x2_S_d0_1_2_3 : S128x32x32x2.ReducesTo [0, 1, 2, 3] S_

variable [Facts]

def fn_where {F : FTy → Type} [FloatOps F] (arg0 : IVec S128x2 1) (arg1 : IVec S128x2 32) (arg2 : IVec S128x2 32) : IVec S128x2 32 :=
  let v0 : IVec S128x2 32 := select arg0 arg1 arg2
  v0

def fn_part1 {F : FTy → Type} [FloatOps F] (main_arg2 : FVec F S_ .f32) (main_v14 : IVec S_ 1) (main_v15 : FVec F S128x32x32x2 .f32) (main_v16 : FVec F S128x32x32x2 .f32) : IVec S_ 1 :=
  let main_v17 : IVec S128x32x32x2 1 := cmpf .olt main_v15 main_v16
  let main_c_5 : IVec S_ 1 := constantI S_ 1 1#1
  let main_v18 : IVec S_ 1 := (fun x v => Host.reduce IntOp.andi x v reducesTo_S128x32x32x2_S_d0_1_2_3 h_S_) main_v17 main_c_5
  let main_v19 : IVec S_ 1 := andi main_v14 main_v18
  let main_v20 : FVec F S_ .f32 := Host.absf main_arg2
  let main_cst_6 : FVec F S_ .f32 := constant S_ .f32 0x7F800000#32
  let main_v21 : IVec S_ 1 := cmpf .olt main_v20 main_cst_6
  let main_v22 : IVec S_ 1 := andi main_v19 main_v21
  main_v22

def fn {F : FTy → Type} [FloatOps F] (main_arg0 : FVec F S128x32x32x2 .f32) (main_arg1 : IVec S128x2 32) (main_arg2 : FVec F S_ .f32) : IVec S_ 1 :=
  let main_v0 : IVec S128x2 32 := iotaInDim S128x2 32 0
  let main_v1 : IVec S128x2 32 := iotaInDim S128x2 32 1
  let main_c : IVec S_ 32 := constantI S_ 32 0#32
  let main_v2 : IVec S128x2 32 := broadcastInDim S128x2 ![] bcast_S_S128x2 main_c
  let main_v3 : IVec S128x2 1 := cmpi .eq main_v1 main_v2
  let main_c_0 : IVec S_ 32 := constantI S_ 32 63#32
  let main_v4 : IVec S128x2 32 := broadcastInDim S128x2 ![] bcast_S_S128x2 main_c_0
  let main_v5 : IVec S128x2 32 := subi main_v0 main_v4
  let main_c_1 : IVec S_ 32 := constantI S_ 32 0#32
  let main_v6 : IVec S128x2 32 := broadcastInDim S128x2 ![] bcast_S_S128x2 main_c_1
  let main_v7 : IVec S128x2 32 := maxsi main_v5 main_v6
  let main_c_2 : IVec S_ 32 := constantI S_ 32 64#32
  let main_v8 : IVec S128x2 32 := broadcastInDim S128x2 ![] bcast_S_S128x2 main_c_2
  let main_v9 : IVec S128x2 32 := subi main_v8 main_v0
  let main_c_3 : IVec S_ 32 := constantI S_ 32 0#32
  let main_v10 : IVec S128x2 32 := broadcastInDim S128x2 ![] bcast_S_S128x2 main_c_3
  let main_v11 : IVec S128x2 32 := maxsi main_v9 main_v10
  let main_v12 : IVec S128x2 32 := fn_where (F := F) main_v3 main_v7 main_v11
  let main_v13 : IVec S128x2 1 := cmpi .eq main_arg1 main_v12
  let main_c_4 : IVec S_ 1 := constantI S_ 1 1#1
  let main_v14 : IVec S_ 1 := (fun x v => Host.reduce IntOp.andi x v reducesTo_S128x2_S_d0_1 h_S_) main_v13 main_c_4
  let main_v15 : FVec F S128x32x32x2 .f32 := Host.absf main_arg0
  let main_cst : FVec F S_ .f32 := constant S_ .f32 0x7F800000#32
  let main_v16 : FVec F S128x32x32x2 .f32 := broadcastInDim S128x32x32x2 ![] bcast_S_S128x32x32x2 main_cst
  fn_part1 (F := F) main_arg2 main_v14 main_v15 main_v16
-- ==== Kernel.lean ====
abbrev S128x32x32x2 : Shape := ⟨4, ![128, 32, 32, 2]⟩
abbrev S128x2 : Shape := ⟨2, ![128, 2]⟩
abbrev S_ : Shape := ⟨0, ![]⟩
abbrev S128x32x64 : Shape := ⟨3, ![128, 32, 64]⟩
abbrev S16 : Shape := ⟨1, ![16]⟩
abbrev S16777216 : Shape := ⟨1, ![16777216]⟩
abbrev S128x64 : Shape := ⟨2, ![128, 64]⟩
abbrev S16384 : Shape := ⟨1, ![16384]⟩
abbrev S8x4096 : Shape := ⟨2, ![8, 4096]⟩
abbrev S2 : Shape := ⟨1, ![2]⟩
abbrev S128x1x64 : Shape := ⟨3, ![128, 1, 64]⟩
abbrev S1x16 : Shape := ⟨2, ![1, 16]⟩
abbrev S1x4096 : Shape := ⟨2, ![1, 4096]⟩
abbrev S4096 : Shape := ⟨1, ![4096]⟩
abbrev S1 : Shape := ⟨1, ![1]⟩
abbrev S128x32x32x128 : Shape := ⟨4, ![128, 32, 32, 128]⟩

abbrev nBuf : Table → Nat
  | .hbm => 7
  | .local .scVector .vmem => 4
  | _ => 0

abbrev bufTy : (tb : Table) → Fin (nBuf tb) → BufTy
  | .hbm, ⟨0, _⟩ => ⟨S128x32x32x2, .f32⟩
  | .hbm, ⟨1, _⟩ => ⟨S128x2, .i32⟩
  | .hbm, ⟨2, _⟩ => ⟨S_, .f32⟩
  | .hbm, ⟨3, _⟩ => ⟨S128x32x64, .f32⟩
  | .hbm, ⟨4, _⟩ => ⟨S16, .f32⟩
  | .hbm, ⟨5, _⟩ => ⟨S16777216, .f32⟩
  | .hbm, ⟨6, _⟩ => ⟨S128x32x32x128, .f32⟩
  | .local .scVector .vmem, ⟨0, _⟩ => ⟨S128x64, .f32⟩
  | .local .scVector .vmem, ⟨1, _⟩ => ⟨S16384, .f32⟩
  | .local .scVector .vmem, ⟨2, _⟩ => ⟨S8x4096, .f32⟩
  | .local .scVector .vmem, ⟨3, _⟩ => ⟨S16, .f32⟩
  | _, _ => ⟨S128x32x32x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_50_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_51_r0 : BitVec 32 := 0#32
  ![0, v1.toNat, 0]
@[reducible] def k0_t1_loop : Scf.Loop 32 :=
  let c0_i32 : BitVec 32 := 0#32
  let c32_i32 : BitVec 32 := 32#32
  let v519 : BitVec 32 := Scalar.addi c0_i32 c32_i32
  let c1_i32 : BitVec 32 := 1#32
  ⟨c0_i32, v519, c1_i32⟩
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32 : BitVec 32 := 4#32
  let v595 : BitVec 32 := Scalar.muli arg10 c4_i32
  let c0_i32_56 : BitVec 32 := 0#32
  let v596 : BitVec 32 := Scalar.addi v595 c0_i32_56
  let v599 : Index := Scalar.indexCast v596
  let c0_58 : Index := 0#32
  ![v599.toNat, 0]

def k0_chk1 (v605 : IVec S16 32) : Prop :=
  (∀ a x, ((![v605] : Fin 1 → IVec S16 32) a x).toNat < S16384.size a)
theorem k0_idx1_inb : ∀ (v605 : IVec S16 32) (k0_hw1 : k0_chk1 v605), ∀ a x, ((![v605] : Fin 1 → IVec S16 32) a x).toNat < S16384.size a := fun v605 k0_hw1 => k0_hw1
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32 : BitVec 32 := 4#32
  let v595 : BitVec 32 := Scalar.muli arg10 c4_i32
  let c0_i32_56 : BitVec 32 := 0#32
  let v596 : BitVec 32 := Scalar.addi v595 c0_i32_56
  let v609 : Index := Scalar.indexCast v596
  let c16_60 : Index := 16#32
  ![v609.toNat, 16]

def k0_chk2 (v615 : IVec S16 32) : Prop :=
  (∀ a x, ((![v615] : Fin 1 → IVec S16 32) a x).toNat < S16384.size a)
theorem k0_idx2_inb : ∀ (v615 : IVec S16 32) (k0_hw2 : k0_chk2 v615), ∀ a x, ((![v615] : Fin 1 → IVec S16 32) a x).toNat < S16384.size a := fun v615 k0_hw2 => k0_hw2
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32 : BitVec 32 := 4#32
  let v595 : BitVec 32 := Scalar.muli arg10 c4_i32
  let c0_i32_56 : BitVec 32 := 0#32
  let v596 : BitVec 32 := Scalar.addi v595 c0_i32_56
  let v619 : Index := Scalar.indexCast v596
  let c32_62 : Index := 32#32
  ![v619.toNat, 32]

def k0_chk3 (v625 : IVec S16 32) : Prop :=
  (∀ a x, ((![v625] : Fin 1 → IVec S16 32) a x).toNat < S16384.size a)
theorem k0_idx3_inb : ∀ (v625 : IVec S16 32) (k0_hw3 : k0_chk3 v625), ∀ a x, ((![v625] : Fin 1 → IVec S16 32) a x).toNat < S16384.size a := fun v625 k0_hw3 => k0_hw3
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32 : BitVec 32 := 4#32
  let v595 : BitVec 32 := Scalar.muli arg10 c4_i32
  let c0_i32_56 : BitVec 32 := 0#32
  let v596 : BitVec 32 := Scalar.addi v595 c0_i32_56
  let v629 : Index := Scalar.indexCast v596
  let c48_64 : Index := 48#32
  ![v629.toNat, 48]

def k0_chk4 (v635 : IVec S16 32) : Prop :=
  (∀ a x, ((![v635] : Fin 1 → IVec S16 32) a x).toNat < S16384.size a)
theorem k0_idx4_inb : ∀ (v635 : IVec S16 32) (k0_hw4 : k0_chk4 v635), ∀ a x, ((![v635] : Fin 1 → IVec S16 32) a x).toNat < S16384.size a := fun v635 k0_hw4 => k0_hw4
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_65 : BitVec 32 := 4#32
  let v637 : BitVec 32 := Scalar.muli arg10 c4_i32_65
  let c1_i32_66 : BitVec 32 := 1#32
  let v638 : BitVec 32 := Scalar.addi v637 c1_i32_66
  let v641 : Index := Scalar.indexCast v638
  let c0_68 : Index := 0#32
  ![v641.toNat, 0]

def k0_chk5 (v647 : IVec S16 32) : Prop :=
  (∀ a x, ((![v647] : Fin 1 → IVec S16 32) a x).toNat < S16384.size a)
theorem k0_idx5_inb : ∀ (v647 : IVec S16 32) (k0_hw5 : k0_chk5 v647), ∀ a x, ((![v647] : Fin 1 → IVec S16 32) a x).toNat < S16384.size a := fun v647 k0_hw5 => k0_hw5
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_65 : BitVec 32 := 4#32
  let v637 : BitVec 32 := Scalar.muli arg10 c4_i32_65
  let c1_i32_66 : BitVec 32 := 1#32
  let v638 : BitVec 32 := Scalar.addi v637 c1_i32_66
  let v651 : Index := Scalar.indexCast v638
  let c16_71 : Index := 16#32
  ![v651.toNat, 16]

def k0_chk6 (v657 : IVec S16 32) : Prop :=
  (∀ a x, ((![v657] : Fin 1 → IVec S16 32) a x).toNat < S16384.size a)
theorem k0_idx6_inb : ∀ (v657 : IVec S16 32) (k0_hw6 : k0_chk6 v657), ∀ a x, ((![v657] : Fin 1 → IVec S16 32) a x).toNat < S16384.size a := fun v657 k0_hw6 => k0_hw6
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_65 : BitVec 32 := 4#32
  let v637 : BitVec 32 := Scalar.muli arg10 c4_i32_65
  let c1_i32_66 : BitVec 32 := 1#32
  let v638 : BitVec 32 := Scalar.addi v637 c1_i32_66
  let v661 : Index := Scalar.indexCast v638
  let c32_74 : Index := 32#32
  ![v661.toNat, 32]

def k0_chk7 (v667 : IVec S16 32) : Prop :=
  (∀ a x, ((![v667] : Fin 1 → IVec S16 32) a x).toNat < S16384.size a)
theorem k0_idx7_inb : ∀ (v667 : IVec S16 32) (k0_hw7 : k0_chk7 v667), ∀ a x, ((![v667] : Fin 1 → IVec S16 32) a x).toNat < S16384.size a := fun v667 k0_hw7 => k0_hw7
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_65 : BitVec 32 := 4#32
  let v637 : BitVec 32 := Scalar.muli arg10 c4_i32_65
  let c1_i32_66 : BitVec 32 := 1#32
  let v638 : BitVec 32 := Scalar.addi v637 c1_i32_66
  let v671 : Index := Scalar.indexCast v638
  let c48_77 : Index := 48#32
  ![v671.toNat, 48]

def k0_chk8 (v677 : IVec S16 32) : Prop :=
  (∀ a x, ((![v677] : Fin 1 → IVec S16 32) a x).toNat < S16384.size a)
theorem k0_idx8_inb : ∀ (v677 : IVec S16 32) (k0_hw8 : k0_chk8 v677), ∀ a x, ((![v677] : Fin 1 → IVec S16 32) a x).toNat < S16384.size a := fun v677 k0_hw8 => k0_hw8
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_79 : BitVec 32 := 4#32
  let v679 : BitVec 32 := Scalar.muli arg10 c4_i32_79
  let c2_i32_80 : BitVec 32 := 2#32
  let v680 : BitVec 32 := Scalar.addi v679 c2_i32_80
  let v683 : Index := Scalar.indexCast v680
  let c0_82 : Index := 0#32
  ![v683.toNat, 0]

def k0_chk9 (v689 : IVec S16 32) : Prop :=
  (∀ a x, ((![v689] : Fin 1 → IVec S16 32) a x).toNat < S16384.size a)
theorem k0_idx9_inb : ∀ (v689 : IVec S16 32) (k0_hw9 : k0_chk9 v689), ∀ a x, ((![v689] : Fin 1 → IVec S16 32) a x).toNat < S16384.size a := fun v689 k0_hw9 => k0_hw9
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_79 : BitVec 32 := 4#32
  let v679 : BitVec 32 := Scalar.muli arg10 c4_i32_79
  let c2_i32_80 : BitVec 32 := 2#32
  let v680 : BitVec 32 := Scalar.addi v679 c2_i32_80
  let v693 : Index := Scalar.indexCast v680
  let c16_85 : Index := 16#32
  ![v693.toNat, 16]

def k0_chk10 (v699 : IVec S16 32) : Prop :=
  (∀ a x, ((![v699] : Fin 1 → IVec S16 32) a x).toNat < S16384.size a)
theorem k0_idx10_inb : ∀ (v699 : IVec S16 32) (k0_hw10 : k0_chk10 v699), ∀ a x, ((![v699] : Fin 1 → IVec S16 32) a x).toNat < S16384.size a := fun v699 k0_hw10 => k0_hw10
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_79 : BitVec 32 := 4#32
  let v679 : BitVec 32 := Scalar.muli arg10 c4_i32_79
  let c2_i32_80 : BitVec 32 := 2#32
  let v680 : BitVec 32 := Scalar.addi v679 c2_i32_80
  let v703 : Index := Scalar.indexCast v680
  let c32_88 : Index := 32#32
  ![v703.toNat, 32]

def k0_chk11 (v709 : IVec S16 32) : Prop :=
  (∀ a x, ((![v709] : Fin 1 → IVec S16 32) a x).toNat < S16384.size a)
theorem k0_idx11_inb : ∀ (v709 : IVec S16 32) (k0_hw11 : k0_chk11 v709), ∀ a x, ((![v709] : Fin 1 → IVec S16 32) a x).toNat < S16384.size a := fun v709 k0_hw11 => k0_hw11
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_79 : BitVec 32 := 4#32
  let v679 : BitVec 32 := Scalar.muli arg10 c4_i32_79
  let c2_i32_80 : BitVec 32 := 2#32
  let v680 : BitVec 32 := Scalar.addi v679 c2_i32_80
  let v713 : Index := Scalar.indexCast v680
  let c48_91 : Index := 48#32
  ![v713.toNat, 48]

def k0_chk12 (v719 : IVec S16 32) : Prop :=
  (∀ a x, ((![v719] : Fin 1 → IVec S16 32) a x).toNat < S16384.size a)
theorem k0_idx12_inb : ∀ (v719 : IVec S16 32) (k0_hw12 : k0_chk12 v719), ∀ a x, ((![v719] : Fin 1 → IVec S16 32) a x).toNat < S16384.size a := fun v719 k0_hw12 => k0_hw12
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_93 : BitVec 32 := 4#32
  let v721 : BitVec 32 := Scalar.muli arg10 c4_i32_93
  let c3_i32 : BitVec 32 := 3#32
  let v722 : BitVec 32 := Scalar.addi v721 c3_i32
  let v725 : Index := Scalar.indexCast v722
  let c0_95 : Index := 0#32
  ![v725.toNat, 0]

def k0_chk13 (v731 : IVec S16 32) : Prop :=
  (∀ a x, ((![v731] : Fin 1 → IVec S16 32) a x).toNat < S16384.size a)
theorem k0_idx13_inb : ∀ (v731 : IVec S16 32) (k0_hw13 : k0_chk13 v731), ∀ a x, ((![v731] : Fin 1 → IVec S16 32) a x).toNat < S16384.size a := fun v731 k0_hw13 => k0_hw13
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_93 : BitVec 32 := 4#32
  let v721 : BitVec 32 := Scalar.muli arg10 c4_i32_93
  let c3_i32 : BitVec 32 := 3#32
  let v722 : BitVec 32 := Scalar.addi v721 c3_i32
  let v735 : Index := Scalar.indexCast v722
  let c16_98 : Index := 16#32
  ![v735.toNat, 16]

def k0_chk14 (v741 : IVec S16 32) : Prop :=
  (∀ a x, ((![v741] : Fin 1 → IVec S16 32) a x).toNat < S16384.size a)
theorem k0_idx14_inb : ∀ (v741 : IVec S16 32) (k0_hw14 : k0_chk14 v741), ∀ a x, ((![v741] : Fin 1 → IVec S16 32) a x).toNat < S16384.size a := fun v741 k0_hw14 => k0_hw14
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_93 : BitVec 32 := 4#32
  let v721 : BitVec 32 := Scalar.muli arg10 c4_i32_93
  let c3_i32 : BitVec 32 := 3#32
  let v722 : BitVec 32 := Scalar.addi v721 c3_i32
  let v745 : Index := Scalar.indexCast v722
  let c32_101 : Index := 32#32
  ![v745.toNat, 32]

def k0_chk15 (v751 : IVec S16 32) : Prop :=
  (∀ a x, ((![v751] : Fin 1 → IVec S16 32) a x).toNat < S16384.size a)
theorem k0_idx15_inb : ∀ (v751 : IVec S16 32) (k0_hw15 : k0_chk15 v751), ∀ a x, ((![v751] : Fin 1 → IVec S16 32) a x).toNat < S16384.size a := fun v751 k0_hw15 => k0_hw15
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c4_i32_93 : BitVec 32 := 4#32
  let v721 : BitVec 32 := Scalar.muli arg10 c4_i32_93
  let c3_i32 : BitVec 32 := 3#32
  let v722 : BitVec 32 := Scalar.addi v721 c3_i32
  let v755 : Index := Scalar.indexCast v722
  let c48_104 : Index := 48#32
  ![v755.toNat, 48]

def k0_chk16 (v761 : IVec S16 32) : Prop :=
  (∀ a x, ((![v761] : Fin 1 → IVec S16 32) a x).toNat < S16384.size a)
theorem k0_idx16_inb : ∀ (v761 : IVec S16 32) (k0_hw16 : k0_chk16 v761), ∀ a x, ((![v761] : Fin 1 → IVec S16 32) a x).toNat < S16384.size a := fun v761 k0_hw16 => k0_hw16
def k0_cond1 (k0_t1 : Fin k0_t1_loop.trips) : BitVec 1 :=
  let c0_i32 : BitVec 32 := 0#32
  let c1_i32 : BitVec 32 := 1#32
  let arg10 : BitVec 32 := Scf.iv c0_i32 c1_i32 k0_t1
  let c2_i32_106 : BitVec 32 := 2#32
  let v763 : BitVec 1 := Scalar.cmpi .sge arg10 c2_i32_106
  let v764 : BitVec 32 := Scalar.extui v763
  let c0_i32_107 : BitVec 32 := 0#32
  let v765 : BitVec 1 := Scalar.cmpi .ne v764 c0_i32_107
  v765

def k0_off18 (k0_t1 : Fin k0_t1_loop.trips) : Fin 1 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  ![v594.toNat]
@[reducible] def k0_t2_loop : Scf.Loop 32 :=
  let c0_i32_108 : BitVec 32 := 0#32
  let c128_i32 : BitVec 32 := 128#32
  let v766 : BitVec 32 := Scalar.addi c0_i32_108 c128_i32
  let c1_i32_109 : BitVec 32 := 1#32
  ⟨c0_i32_108, v766, c1_i32_109⟩

def k0_chk17 (v843 : IVec S16 32) : Prop :=
  (∀ a x, ((![v843] : Fin 1 → IVec S16 32) a x).toNat < S16384.size a)
theorem k0_idx17_inb : ∀ (v843 : IVec S16 32) (k0_hw17 : k0_chk17 v843), ∀ a x, ((![v843] : Fin 1 → IVec S16 32) a x).toNat < S16384.size a := fun v843 k0_hw17 => k0_hw17

def k0_chk18 (v850 : IVec S16 32) : Prop :=
  (∀ a x, ((![v850] : Fin 1 → IVec S16 32) a x).toNat < S16384.size a)
theorem k0_idx18_inb : ∀ (v850 : IVec S16 32) (k0_hw18 : k0_chk18 v850), ∀ a x, ((![v850] : Fin 1 → IVec S16 32) a x).toNat < S16384.size a := fun v850 k0_hw18 => k0_hw18

def k0_chk19 (v858 : IVec S16 32) : Prop :=
  (∀ a x, ((![v858] : Fin 1 → IVec S16 32) a x).toNat < S16384.size a)
theorem k0_idx19_inb : ∀ (v858 : IVec S16 32) (k0_hw19 : k0_chk19 v858), ∀ a x, ((![v858] : Fin 1 → IVec S16 32) a x).toNat < S16384.size a := fun v858 k0_hw19 => k0_hw19
def k0_off19 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v863 : Index := Scalar.indexCast v838
  let c31_i32 : BitVec 32 := 31#32
  let v834 : BitVec 32 := Scalar.andi v832 c31_i32
  let c128_i32_162 : BitVec 32 := 128#32
  let v861 : BitVec 32 := Scalar.muli v834 c128_i32_162
  let c0_i32_163 : BitVec 32 := 0#32
  let v862 : BitVec 32 := Scalar.addi v861 c0_i32_163
  let v864 : Index := Scalar.indexCast v862
  ![v863.toNat, v864.toNat]

def k0_chk20 (v872 : IVec S16 32) : Prop :=
  (∀ a x, ((![v872] : Fin 1 → IVec S16 32) a x).toNat < S16384.size a)
theorem k0_idx20_inb : ∀ (v872 : IVec S16 32) (k0_hw20 : k0_chk20 v872), ∀ a x, ((![v872] : Fin 1 → IVec S16 32) a x).toNat < S16384.size a := fun v872 k0_hw20 => k0_hw20
def k0_off20 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v878 : Index := Scalar.indexCast v838
  let c31_i32 : BitVec 32 := 31#32
  let v834 : BitVec 32 := Scalar.andi v832 c31_i32
  let c128_i32_167 : BitVec 32 := 128#32
  let v875 : BitVec 32 := Scalar.muli v834 c128_i32_167
  let c64_i32_168 : BitVec 32 := 64#32
  let v876 : BitVec 32 := Scalar.addi v875 c64_i32_168
  let c0_i32_169 : BitVec 32 := 0#32
  let v877 : BitVec 32 := Scalar.addi v876 c0_i32_169
  let v879 : Index := Scalar.indexCast v877
  ![v878.toNat, v879.toNat]

def k0_chk21 (v887 : IVec S16 32) : Prop :=
  (∀ a x, ((![v887] : Fin 1 → IVec S16 32) a x).toNat < S16384.size a)
theorem k0_idx21_inb : ∀ (v887 : IVec S16 32) (k0_hw21 : k0_chk21 v887), ∀ a x, ((![v887] : Fin 1 → IVec S16 32) a x).toNat < S16384.size a := fun v887 k0_hw21 => k0_hw21
def k0_off21 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v892 : Index := Scalar.indexCast v838
  let c31_i32 : BitVec 32 := 31#32
  let v834 : BitVec 32 := Scalar.andi v832 c31_i32
  let c128_i32_173 : BitVec 32 := 128#32
  let v890 : BitVec 32 := Scalar.muli v834 c128_i32_173
  let c16_i32_174 : BitVec 32 := 16#32
  let v891 : BitVec 32 := Scalar.addi v890 c16_i32_174
  let v893 : Index := Scalar.indexCast v891
  ![v892.toNat, v893.toNat]

def k0_chk22 (v901 : IVec S16 32) : Prop :=
  (∀ a x, ((![v901] : Fin 1 → IVec S16 32) a x).toNat < S16384.size a)
theorem k0_idx22_inb : ∀ (v901 : IVec S16 32) (k0_hw22 : k0_chk22 v901), ∀ a x, ((![v901] : Fin 1 → IVec S16 32) a x).toNat < S16384.size a := fun v901 k0_hw22 => k0_hw22
def k0_off22 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v907 : Index := Scalar.indexCast v838
  let c31_i32 : BitVec 32 := 31#32
  let v834 : BitVec 32 := Scalar.andi v832 c31_i32
  let c128_i32_179 : BitVec 32 := 128#32
  let v904 : BitVec 32 := Scalar.muli v834 c128_i32_179
  let c64_i32_180 : BitVec 32 := 64#32
  let v905 : BitVec 32 := Scalar.addi v904 c64_i32_180
  let c16_i32_181 : BitVec 32 := 16#32
  let v906 : BitVec 32 := Scalar.addi v905 c16_i32_181
  let v908 : Index := Scalar.indexCast v906
  ![v907.toNat, v908.toNat]

def k0_chk23 (v916 : IVec S16 32) : Prop :=
  (∀ a x, ((![v916] : Fin 1 → IVec S16 32) a x).toNat < S16384.size a)
theorem k0_idx23_inb : ∀ (v916 : IVec S16 32) (k0_hw23 : k0_chk23 v916), ∀ a x, ((![v916] : Fin 1 → IVec S16 32) a x).toNat < S16384.size a := fun v916 k0_hw23 => k0_hw23
def k0_off23 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v921 : Index := Scalar.indexCast v838
  let c31_i32 : BitVec 32 := 31#32
  let v834 : BitVec 32 := Scalar.andi v832 c31_i32
  let c128_i32_186 : BitVec 32 := 128#32
  let v919 : BitVec 32 := Scalar.muli v834 c128_i32_186
  let c32_i32_187 : BitVec 32 := 32#32
  let v920 : BitVec 32 := Scalar.addi v919 c32_i32_187
  let v922 : Index := Scalar.indexCast v920
  ![v921.toNat, v922.toNat]

def k0_chk24 (v930 : IVec S16 32) : Prop :=
  (∀ a x, ((![v930] : Fin 1 → IVec S16 32) a x).toNat < S16384.size a)
theorem k0_idx24_inb : ∀ (v930 : IVec S16 32) (k0_hw24 : k0_chk24 v930), ∀ a x, ((![v930] : Fin 1 → IVec S16 32) a x).toNat < S16384.size a := fun v930 k0_hw24 => k0_hw24
def k0_off24 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v936 : Index := Scalar.indexCast v838
  let c31_i32 : BitVec 32 := 31#32
  let v834 : BitVec 32 := Scalar.andi v832 c31_i32
  let c128_i32_192 : BitVec 32 := 128#32
  let v933 : BitVec 32 := Scalar.muli v834 c128_i32_192
  let c64_i32_193 : BitVec 32 := 64#32
  let v934 : BitVec 32 := Scalar.addi v933 c64_i32_193
  let c32_i32_194 : BitVec 32 := 32#32
  let v935 : BitVec 32 := Scalar.addi v934 c32_i32_194
  let v937 : Index := Scalar.indexCast v935
  ![v936.toNat, v937.toNat]

def k0_chk25 (v945 : IVec S16 32) : Prop :=
  (∀ a x, ((![v945] : Fin 1 → IVec S16 32) a x).toNat < S16384.size a)
theorem k0_idx25_inb : ∀ (v945 : IVec S16 32) (k0_hw25 : k0_chk25 v945), ∀ a x, ((![v945] : Fin 1 → IVec S16 32) a x).toNat < S16384.size a := fun v945 k0_hw25 => k0_hw25
def k0_off25 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v950 : Index := Scalar.indexCast v838
  let c31_i32 : BitVec 32 := 31#32
  let v834 : BitVec 32 := Scalar.andi v832 c31_i32
  let c128_i32_198 : BitVec 32 := 128#32
  let v948 : BitVec 32 := Scalar.muli v834 c128_i32_198
  let c48_i32_199 : BitVec 32 := 48#32
  let v949 : BitVec 32 := Scalar.addi v948 c48_i32_199
  let v951 : Index := Scalar.indexCast v949
  ![v950.toNat, v951.toNat]

def k0_chk26 (v959 : IVec S16 32) : Prop :=
  (∀ a x, ((![v959] : Fin 1 → IVec S16 32) a x).toNat < S16384.size a)
theorem k0_idx26_inb : ∀ (v959 : IVec S16 32) (k0_hw26 : k0_chk26 v959), ∀ a x, ((![v959] : Fin 1 → IVec S16 32) a x).toNat < S16384.size a := fun v959 k0_hw26 => k0_hw26
def k0_off26 (k0_t1 : Fin k0_t1_loop.trips) (k0_t2 : Fin k0_t2_loop.trips) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_150 : BitVec 32 := 4#32
  let v837 : BitVec 32 := Scalar.muli v594 c4_i32_150
  let c0_i32_148 : BitVec 32 := 0#32
  let c0_i32_108 : BitVec 32 := 0#32
  let c1_i32_109 : BitVec 32 := 1#32
  let arg15 : BitVec 32 := Scf.iv c0_i32_108 c1_i32_109 k0_t2
  let c1_i32_147 : BitVec 32 := 1#32
  let v831 : BitVec 32 := Scalar.muli arg15 c1_i32_147
  let v832 : BitVec 32 := Scalar.addi c0_i32_148 v831
  let c5_i32 : BitVec 32 := 5#32
  let v833 : BitVec 32 := Scalar.shrsi v832 c5_i32
  let v838 : BitVec 32 := Scalar.addi v837 v833
  let v965 : Index := Scalar.indexCast v838
  let c31_i32 : BitVec 32 := 31#32
  let v834 : BitVec 32 := Scalar.andi v832 c31_i32
  let c128_i32_204 : BitVec 32 := 128#32
  let v962 : BitVec 32 := Scalar.muli v834 c128_i32_204
  let c64_i32_205 : BitVec 32 := 64#32
  let v963 : BitVec 32 := Scalar.addi v962 c64_i32_205
  let c48_i32_206 : BitVec 32 := 48#32
  let v964 : BitVec 32 := Scalar.addi v963 c48_i32_206
  let v966 : Index := Scalar.indexCast v964
  ![v965.toNat, v966.toNat]
def k0_off27 (k0_t1 : Fin k0_t1_loop.trips) (c0_i32_112 : BitVec 32) : Fin 2 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  let c4_i32_111 : BitVec 32 := 4#32
  let v767 : BitVec 32 := Scalar.muli v594 c4_i32_111
  let v768 : BitVec 32 := Scalar.addi v767 c0_i32_112
  let c0_i32_118 : BitVec 32 := 0#32
  ![v768.toNat, 0]
def k0_off28 (i : grid0.Coords) (k0_t1 : Fin k0_t1_loop.trips) (c0_i32_114 : BitVec 32) : Fin 1 → Nat :=
  let c0_i32 : BitVec 32 := 0#32
  let c1_i32 : BitVec 32 := 1#32
  let arg10 : BitVec 32 := Scf.iv c0_i32 c1_i32 k0_t1
  let c4_i32_113 : BitVec 32 := 4#32
  let v769 : BitVec 32 := Scalar.muli arg10 c4_i32_113
  let v770 : BitVec 32 := Scalar.addi v769 c0_i32_114
  let c32_i32_115 : BitVec 32 := 32#32
  let v771 : BitVec 32 := Scalar.muli v770 c32_i32_115
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v772 : BitVec 32 := Scalar.addi v771 v1
  let c32_i32_116 : BitVec 32 := 32#32
  let v773 : BitVec 32 := Scalar.muli v772 c32_i32_116
  let c128_i32_117 : BitVec 32 := 128#32
  let v774 : BitVec 32 := Scalar.muli v773 c128_i32_117
  ![v774.toNat]
def k0_off29 (k0_t1 : Fin k0_t1_loop.trips) : Fin 1 → Nat :=
  let c0_i32 : BitVec 32 := 0#32
  let c1_i32 : BitVec 32 := 1#32
  let arg10 : BitVec 32 := Scf.iv c0_i32 c1_i32 k0_t1
  let c2_i32_50 : BitVec 32 := 2#32
  let c0_i32_51 : BitVec 32 := 0#32
  let v585 : BitVec 1 := Scalar.cmpi .eq c2_i32_50 c0_i32_51
  let c1_i32_52 : BitVec 32 := 1#32
  let v586 : BitVec 32 := Scalar.select v585 c1_i32_52 c2_i32_50
  let v587 : BitVec 32 := Scalar.remsi arg10 v586
  let c0_i32_54 : BitVec 32 := 0#32
  let v589 : BitVec 1 := Scalar.cmpi .slt v587 c0_i32_54
  let c0_i32_55 : BitVec 32 := 0#32
  let v590 : BitVec 1 := Scalar.cmpi .slt v586 c0_i32_55
  let v591 : BitVec 1 := Scalar.xori v589 v590
  let c0_i32_53 : BitVec 32 := 0#32
  let v588 : BitVec 1 := Scalar.cmpi .ne v587 c0_i32_53
  let v592 : BitVec 1 := Scalar.andi v591 v588
  let v593 : BitVec 32 := Scalar.addi v587 v586
  let v594 : BitVec 32 := Scalar.select v592 v593 v587
  ![v594.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32x32x2 : Shape := ⟨4, ![128, 32, 32, 2]⟩
abbrev S128x2 : Shape := ⟨2, ![128, 2]⟩
abbrev S_ : Shape := ⟨0, ![]⟩
abbrev S32x32x2 : Shape := ⟨3, ![32, 32, 2]⟩
abbrev S1x32x32x2 : Shape := ⟨4, ![1, 32, 32, 2]⟩
abbrev S128x32x32x1x2 : Shape := ⟨5, ![128, 32, 32, 1, 2]⟩
abbrev S128x32x32x128x2 : Shape := ⟨5, ![128, 32, 32, 128, 2]⟩
abbrev S128 : Shape := ⟨1, ![128]⟩
abbrev S128x1x1x1x1 : Shape := ⟨5, ![128, 1, 1, 1, 1]⟩
abbrev S1x1x1x128x2 : Shape := ⟨5, ![1, 1, 1, 128, 2]⟩
abbrev S128x1x1x128x2 : Shape := ⟨5, ![128, 1, 1, 128, 2]⟩
abbrev S128x32x32x128x2x1 : Shape := ⟨6, ![128, 32, 32, 128, 2, 1]⟩
abbrev S1 : Shape := ⟨1, ![1]⟩
abbrev S1x1x1x1x1x1 : Shape := ⟨6, ![1, 1, 1, 1, 1, 1]⟩
abbrev S128x32x32x128 : Shape := ⟨4, ![128, 32, 32, 128]⟩

abbrev nBuf : Space → Nat
  | .hbm => 100
  | .vmem => 0
  | .smem => 0
  | _ => 0

abbrev bufTy : (tb : Table) → Fin (tcTables nBuf tb) → BufTy
  | .hbm, ⟨0, _⟩ => ⟨S128x32x32x2, .f32⟩
  | .hbm, ⟨1, _⟩ => ⟨S128x2, .i32⟩
  | .hbm, ⟨2, _⟩ => ⟨S_, .f32⟩
  | .hbm, ⟨3, _⟩ => ⟨S_, .f32⟩
  | .hbm, ⟨4, _⟩ => ⟨S32x32x2, .f32⟩
  | .hbm, ⟨5, _⟩ => ⟨S_, .f32⟩
  | .hbm, ⟨6, _⟩ => ⟨S128x32x32x2, .f32⟩
  | .hbm, ⟨7, _⟩ => ⟨S_, .i32⟩
  | .hbm, ⟨8, _⟩ => ⟨S128x32x32x2, .f32⟩
  | .hbm, ⟨9, _⟩ => ⟨S_, .i32⟩
  | .hbm, ⟨10, _⟩ => ⟨S32x32x2, .f32⟩
  | .hbm, ⟨11, _⟩ => ⟨S128x32x32x2, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x32x32x2, .f32⟩
  | .hbm, ⟨18, _⟩ => ⟨S32x32x2, .f32⟩
  | .hbm, ⟨19, _⟩ => ⟨S_, .f32⟩
  | .hbm, ⟨20, _⟩ => ⟨S32x32x2, .f32⟩
  | .hbm, ⟨21, _⟩ => ⟨S32x32x2, .f32⟩
  | .hbm, ⟨22, _⟩ => ⟨S32x32x2, .f32⟩
  | .hbm, ⟨23, _⟩ => ⟨S1x32x32x2, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x32x32x2, .f32⟩
  | .hbm, ⟨28, _⟩ => ⟨S_, .i32⟩
  | .hbm, ⟨29, _⟩ => ⟨S_, .i32⟩
  | .hbm, ⟨30, _⟩ => ⟨S128x32x32x1x2, .f32⟩
  | .hbm, ⟨31, _⟩ => ⟨S128x32x32x128x2, .f32⟩
  | .hbm, ⟨32, _⟩ => ⟨S128, .i32⟩
  | .hbm, ⟨33, _⟩ => ⟨S128x1x1x1x1, .i32⟩
  | .hbm, ⟨34, _⟩ => ⟨S1x1x1x128x2, .i32⟩
  | .hbm, ⟨35, _⟩ => ⟨S_, .i32⟩
  | .hbm, ⟨36, _⟩ => ⟨S1x1x1x128x2, .i32⟩
  | .hbm, ⟨37, _⟩ => ⟨S1x1x1x128x2, .i32⟩
  | .hbm, ⟨38, _⟩ => ⟨S128x1x1x128x2, .i32⟩
  | .hbm, ⟨39, _⟩ => ⟨S128x1x1x128x2, .i32⟩
  | .hbm, ⟨40, _⟩ => ⟨S128x1x1x128x2, .i1⟩
  | .hbm, ⟨41, _⟩ => ⟨S128x32x32x128x2, .i1⟩
  | .hbm, ⟨42, _⟩ => ⟨S_, .f32⟩
  | .hbm, ⟨43, _⟩ => ⟨S128x32x32x128x2, .f32⟩
  | .hbm, ⟨44, _⟩ => ⟨S128x32x32x128x2, .f32⟩
  | .hbm, ⟨45, _⟩ => ⟨S128, .i32⟩
  | .hbm, ⟨46, _⟩ => ⟨S128x1x1x1x1, .i32⟩
  | .hbm, ⟨47, _⟩ => ⟨S1x1x1x128x2, .i32⟩
  | .hbm, ⟨48, _⟩ => ⟨S128x1x1x128x2, .i32⟩
  | .hbm, ⟨49, _⟩ => ⟨S128x1x1x128x2, .i32⟩
  | .hbm, ⟨50, _⟩ => ⟨S128x1x1x128x2, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S128x1x1x128x2, .i32⟩
  | .hbm, ⟨58, _⟩ => ⟨S128x1x1x128x2, .i32⟩
  | .hbm, ⟨59, _⟩ => ⟨S_, .i32⟩
  | .hbm, ⟨60, _⟩ => ⟨S128x1x1x128x2, .i32⟩
  | .hbm, ⟨61, _⟩ => ⟨S128x1x1x128x2, .i1⟩
  | .hbm, ⟨62, _⟩ => ⟨S_, .i32⟩
  | .hbm, ⟨63, _⟩ => ⟨S128x1x1x128x2, .i32⟩
  | .hbm, ⟨64, _⟩ => ⟨S128x1x1x128x2, .i1⟩
  | .hbm, ⟨65, _⟩ => ⟨S_, .i32⟩
  | .hbm, ⟨66, _⟩ => ⟨S_, .i1⟩
  | .hbm, ⟨67, _⟩ => ⟨S128x1x1x128x2, .i1⟩
  | .hbm, ⟨68, _⟩ => ⟨S128x1x1x128x2, .i1⟩
  | .hbm, ⟨69, _⟩ => ⟨S128x1x1x128x2, .i1⟩
  | .hbm, ⟨70, _⟩ => ⟨S128x1x1x128x2, .i32⟩
  | .hbm, ⟨71, _⟩ => ⟨S128x1x1x128x2, .i32⟩
  | .hbm, ⟨72, _⟩ => ⟨S128x1x1x128x2, .i32⟩
  | .hbm, ⟨73, _⟩ => ⟨S128x32x32x128x2, .i32⟩
  | .hbm, ⟨74, _⟩ => ⟨S_, .i32⟩
  | .hbm, ⟨75, _⟩ => ⟨S128x32x32x128x2, .i32⟩
  | .hbm, ⟨76, _⟩ => ⟨S128x32x32x128x2, .i1⟩
  | .hbm, ⟨77, _⟩ => ⟨S_, .i32⟩
  | .hbm, ⟨78, _⟩ => ⟨S128x32x32x128x2, .i32⟩
  | .hbm, ⟨79, _⟩ => ⟨S128x32x32x128x2, .i32⟩
  | .hbm, ⟨80, _⟩ => ⟨S128x32x32x128x2, .i32⟩
  | .hbm, ⟨81, _⟩ => ⟨S128x32x32x128x2x1, .i32⟩
  | .hbm, ⟨82, _⟩ => ⟨S1, .i32⟩
  | .hbm, ⟨83, _⟩ => ⟨S_, .i32⟩
  | .hbm, ⟨84, _⟩ => ⟨S128x32x32x128x2x1, .i32⟩
  | .hbm, ⟨85, _⟩ => ⟨S128x32x32x128x2x1, .i1⟩
  | .hbm, ⟨86, _⟩ => ⟨S1x1x1x1x1x1, .i32⟩
  | .hbm, ⟨87, _⟩ => ⟨S128x32x32x128x2x1, .i32⟩
  | .hbm, ⟨88, _⟩ => ⟨S128x32x32x128x2x1, .i1⟩
  | .hbm, ⟨89, _⟩ => ⟨S128x32x32x128x2x1, .i1⟩
  | .hbm, ⟨90, _⟩ => ⟨S_, .i1⟩
  | .hbm, ⟨91, _⟩ => ⟨S128x32x32x128x2, .i1⟩
  | .hbm, ⟨92, _⟩ => ⟨S128x32x32x128x2, .f32⟩
  | .hbm, ⟨93, _⟩ => ⟨S_, .f32⟩
  | .hbm, ⟨94, _⟩ => ⟨S128x32x32x128x2, .f32⟩
  | .hbm, ⟨95, _⟩ => ⟨S128x32x32x128x2, .f32⟩
  | .hbm, ⟨96, _⟩ => ⟨S_, .f32⟩
  | .hbm, ⟨97, _⟩ => ⟨S128x32x32x128, .f32⟩
  | .hbm, ⟨98, _⟩ => ⟨S128x32x32x128, .f32⟩
  | .hbm, ⟨99, _⟩ => ⟨S128x32x32x128, .f32⟩
  | _, _ => ⟨S128x32x32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_while0c_c_8 : Ref sig .tc := ⟨.hbm, 12, rfl⟩
abbrev main_while0c_v27 : Ref sig .tc := ⟨.hbm, 13, rfl⟩
abbrev main_while0b_call0_c : Ref sig .tc := ⟨.hbm, 14, rfl⟩
abbrev main_while0b_call0_c_0 : Ref sig .tc := ⟨.hbm, 15, rfl⟩
abbrev main_while0b_call0_c_1 : Ref sig .tc := ⟨.hbm, 16, rfl⟩
abbrev main_while0b_call0_v0 : Ref sig .tc := ⟨.hbm, 17, rfl⟩
abbrev main_while0b_v27 : Ref sig .tc := ⟨.hbm, 18, rfl⟩
abbrev main_while0b_cst_8 : Ref sig .tc := ⟨.hbm, 19, rfl⟩
abbrev main_while0b_v28 : Ref sig .tc := ⟨.hbm, 20, rfl⟩
abbrev main_while0b_v29 : Ref sig .tc := ⟨.hbm, 21, rfl⟩
abbrev main_while0b_v30 : Ref sig .tc := ⟨.hbm, 22, rfl⟩
abbrev main_while0b_call1_v0 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_c_1 : Ref sig .tc := ⟨.hbm, 26, rfl⟩
abbrev main_while0b_v31 : Ref sig .tc := ⟨.hbm, 27, rfl⟩
abbrev main_while0b_c_9 : Ref sig .tc := ⟨.hbm, 28, rfl⟩
abbrev main_while0b_v32 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call2_v0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_c_1 : Ref sig .tc := ⟨.hbm, 59, rfl⟩
abbrev main_call3_v5 : Ref sig .tc := ⟨.hbm, 60, rfl⟩
abbrev main_call3_v6 : Ref sig .tc := ⟨.hbm, 61, rfl⟩
abbrev main_call3_c_2 : Ref sig .tc := ⟨.hbm, 62, rfl⟩
abbrev main_call3_v7 : Ref sig .tc := ⟨.hbm, 63, rfl⟩
abbrev main_call3_v8 : Ref sig .tc := ⟨.hbm, 64, rfl⟩
abbrev main_call3_c_3 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_v21 : Ref sig .tc := ⟨.hbm, 72, rfl⟩
abbrev main_v22 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_c_1 : Ref sig .tc := ⟨.hbm, 82, rfl⟩
abbrev main_call4_c_2 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_c_3 : Ref sig .tc := ⟨.hbm, 90, rfl⟩
abbrev main_call4_v12 : Ref sig .tc := ⟨.hbm, 91, rfl⟩
abbrev main_call4_v13 : Ref sig .tc := ⟨.hbm, 92, rfl⟩
abbrev main_call4_cst : Ref sig .tc := ⟨.hbm, 93, rfl⟩
abbrev main_call4_v14 : Ref sig .tc := ⟨.hbm, 94, rfl⟩
abbrev main_v23 : Ref sig .tc := ⟨.hbm, 95, rfl⟩
abbrev main_cst_4 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩

abbrev nD : Nat := 1
abbrev τ : Topo := Topo.v7x

variable {F : FTy → Type} [FloatOps F]

abbrev main_while0_count : Scf.Loop 32 := ⟨0#32, 128#32, 1#32⟩
-- ==== Proof.Lif.Prg.lean ====
/-
  The tile body as a short program of its own: the zeroing of the scratch, one step of the scan, one half of an
  output row, the copies of four rows and the waits for them, and the body as their sequence. Each printed part is
  shown to be such a sequence by unfolding; the proofs then speak of these few steps.
-/
module

public import proofs.«01_k».proof.Proof.Gen.KernelIdeal.Skeleton

@[expose] public section

set_option synthInstance.maxSize 4096

noncomputable section

namespace Cert.KernelIdeal.Lif

open Idealize.ShloMosaic Idealize.SL.Sem Cert.KernelIdeal.Gen

variable {F : FTy → Type} [FloatOps F]

/-- Programs of the tile at grid coordinates `i`. -/
abbrev TP (F : FTy → Type) [FloatOps F] (i : grid0.Coords) (α : Type) :=
  Prog (TpuEff nD τ sig (Elt F) Λ₀ (.scVector ((i 0).castLE hcore0) ((i 1).castLE hsub0))) α

/-- The reshaped input, the broadcast weight and the flat output, in HBM. -/
abbrev xh : Memref sig .scVector .hbm S128x32x64 .f32 := Memref.whole main_v0_scv
abbrev wh : Memref sig .scVector .hbm S16 .f32 := Memref.whole main_v1_scv
abbrev oh : Memref sig .scVector .hbm S16777216 .f32 := Memref.whole main_v2_scv
/-- The tile's input slab, padded history, output rows and weight. -/
abbrev xv : Memref sig .scVector .vmem S128x64 .f32 := Memref.whole cc0_scratch0
abbrev bv : Memref sig .scVector .vmem S16384 .f32 := Memref.whole cc0_scratch1
abbrev ov : Memref sig .scVector .vmem S8x4096 .f32 := Memref.whole cc0_scratch2
abbrev wv : Memref sig .scVector .vmem S16 .f32 := Memref.whole cc0_scratch3

variable {i : grid0.Coords}

/-! ## Zeroing -/

/-- Where the `n`-th store of zeros goes: sixteen words, alternately left and right of a column's times. -/
def zoff (n : Nat) : Nat := (n / 8 % 64) * 256 + (n % 2) * 192 + ((n % 8) / 2) * 16

theorem zoff_inb (n : Nat) : ∀ a, (![zoff n] : Fin 1 → Nat) a + S16.size a ≤ S16384.size a := by
  intro a
  fin_cases a
  show zoff n + 16 ≤ 16384
  unfold zoff
  omega

/-- Store number `n` of zeros, after the load the program makes of the place. -/
def zstep (z : FVec F S16 .f32) (n : Nat) : TP F i PUnit := do
  let _ : Vec F S16 .f32 ← Prog.lift (.load bv (Rect.unit (s := S16384) ![zoff n] S16.size (zoff_inb n)).toLoadRect (View.loadsAt_vmem h_S16))
  Prog.lift (.store bv (Rect.unit (s := S16384) ![zoff n] S16.size (zoff_inb n)) z Finset.univ (View.stores_vmem_bits_univ h_S16 rfl) (.inl rfl))

/-- `cnt` stores of zeros from number `n` on. -/
def zeros (z : FVec F S16 .f32) : Nat → Nat → TP F i PUnit
  | _, 0 => pure ⟨⟩
  | n, cnt + 1 => do
    zstep z n
    zeros z (n + 1) cnt

/-! ## The scan -/

/-- One step of the filter on sixteen columns: `0.9 · carry + x`. -/
def nxt (c : FVec F S16 .f32) (x : Vec F S1x16 .f32) : FVec F S16 .f32 :=
  addf (mulf (broadcast S16 (Scalar.ofBits .f32 0x3F666666#32 : F .f32)) c) (shapeCast S16 x shapeCasts_S1x16_S16)

/-- The time `4k + u` as the program's word. -/
def tw (k : Fin k0_t1_loop.trips) (u : BitVec 32) : BitVec 32 :=
  Scalar.addi (Scalar.muli (Scf.iv 0#32 1#32 k) 4#32) u

/-- Where a scan step stores: `base + 256·lane + t`. -/
def sidx (base : BitVec 32) (t : BitVec 32) : IVec S16 32 :=
  addi (addi (broadcast S16 base) k0_pay70) (broadcast S16 t)

def scanStep (off : Fin 2 → Nat) (hoff : ∀ a, off a + S1x16.size a ≤ S128x64.size a) (base t : BitVec 32) (w c : FVec F S16 .f32) :
    TP F i (FVec F S16 .f32) := do
  let x : Vec F S1x16 .f32 ← Prog.lift (.load xv (Rect.unit (s := S128x64) off S1x16.size hoff).toLoadRect (View.loadsAt_vmem h_S1x16))
  have h : k0_chk1 (sidx base t) := (← Prog.lift (TpuEff.assume (k0_chk1 (sidx base t)) (k0_chk1.dec (sidx base t)))).down
  SparseCore.vectorStoreIdx bv ![sidx base t] (mulf (nxt c x) w) (fun _ => 1#1) false (k0_idx1_inb (sidx base t) h) (View.stores_vmem_bits_univ h_S16384 rfl)
  pure (nxt c x)

/-- The four carries. -/
abbrev C4 (F : FTy → Type) := FVec F S16 .f32 × FVec F S16 .f32 × FVec F S16 .f32 × FVec F S16 .f32

/-- One time step: sixteen columns at a time. -/
def scanRow (o : Fin 4 → Fin 2 → Nat) (ho : ∀ g a, o g a + S1x16.size a ≤ S128x64.size a) (t : BitVec 32) (w : FVec F S16 .f32) (c : C4 F) :
    TP F i (C4 F) := do
  let c0 ← scanStep (o 0) (ho 0) 64#32 t w c.1
  let c1 ← scanStep (o 1) (ho 1) 4160#32 t w c.2.1
  let c2 ← scanStep (o 2) (ho 2) 8256#32 t w c.2.2.1
  let c3 ← scanStep (o 3) (ho 3) 12352#32 t w c.2.2.2
  pure (c0, c1, c2, c3)

/-- The rows' places in the slab. -/
def roff (u : Fin 4) (k : Fin k0_t1_loop.trips) : Fin 4 → Fin 2 → Nat := match u with
  | 0 => ![k0_off2 k, k0_off3 k, k0_off4 k, k0_off5 k]
  | 1 => ![k0_off6 k, k0_off7 k, k0_off8 k, k0_off9 k]
  | 2 => ![k0_off10 k, k0_off11 k, k0_off12 k, k0_off13 k]
  | 3 => ![k0_off14 k, k0_off15 k, k0_off16 k, k0_off17 k]

theorem roff_eq (u : Fin 4) (k : Fin k0_t1_loop.trips) (g : Fin 4) : roff u k g = ![4 * k.val + u.val, 16 * g.val] := by
  fin_cases u <;> fin_cases g <;>
    first
    | exact k0_off2_eq k | exact k0_off3_eq k | exact k0_off4_eq k | exact k0_off5_eq k
    | exact k0_off6_eq k | exact k0_off7_eq k | exact k0_off8_eq k | exact k0_off9_eq k
    | exact k0_off10_eq k | exact k0_off11_eq k | exact k0_off12_eq k | exact k0_off13_eq k
    | exact k0_off14_eq k | exact k0_off15_eq k | exact k0_off16_eq k | exact k0_off17_eq k

theorem roff_inb (u : Fin 4) (k : Fin k0_t1_loop.trips) (g : Fin 4) (a : Fin 2) : roff u k g a + S1x16.size a ≤ S128x64.size a := by
  rw [roff_eq]
  have hk : k.val < 32 := k.isLt
  have hu := u.isLt
  have hg := g.isLt
  fin_cases a
  · show 4 * k.val + u.val + 1 ≤ 128
    omega
  · show 16 * g.val + 16 ≤ 64
    omega

/-- The four time steps of a trip. -/
def scan4 (k : Fin k0_t1_loop.trips) (w : FVec F S16 .f32) (c : C4 F) : TP F i (C4 F) := do
  let c ← scanRow (roff 0 k) (roff_inb 0 k) (tw k 0#32) w c
  let c ← scanRow (roff 1 k) (roff_inb 1 k) (tw k 1#32) w c
  let c ← scanRow (roff 2 k) (roff_inb 2 k) (tw k 2#32) w c
  scanRow (roff 3 k) (roff_inb 3 k) (tw k 3#32) w c

/-! ## An output row -/

/-- A gather out of the padded history. -/
def gath (v : IVec S16 32) : TP F i (Vec F S16 .f32) := do
  have h : k0_chk1 v := (← Prog.lift (TpuEff.assume (k0_chk1 v) (k0_chk1.dec v))).down
  SparseCore.vectorLoadIdx bv ![v] (k0_idx1_inb v h) (View.loads_vmem h_S16384)

/-- Sixteen features: the gathered delayed times added to the broadcast present one, stored. -/
def half (off : Fin 2 → Nat) (hoff : ∀ a, off a + S1x16.size a ≤ S8x4096.size a) (v : IVec S16 32) (a : FVec F S16 .f32) : TP F i PUnit := do
  let g ← gath v
  let _ : Vec F S1x16 .f32 ← Prog.lift (.load ov (Rect.unit (s := S8x4096) off S1x16.size hoff).toLoadRect (View.loadsAt_vmem h_S1x16))
  Prog.lift (.store ov (Rect.unit (s := S8x4096) off S1x16.size hoff) (shapeCast S1x16 (addf a g) shapeCasts_S16_S1x16) Finset.univ (View.stores_vmem_bits_univ h_S1x16 rfl) (.inl rfl))

/-- The pair number, the channel and the time of an inner trip, as the program's words. -/
def jw (j : Fin k0_t2_loop.trips) : BitVec 32 := Scalar.addi 0#32 (Scalar.muli (Scf.iv 0#32 1#32 j) 1#32)
def cw (j : Fin k0_t2_loop.trips) : BitVec 32 := Scalar.andi (jw j) 31#32
def ttw (k : Fin k0_t1_loop.trips) (j : Fin k0_t2_loop.trips) : BitVec 32 :=
  Scalar.addi (Scalar.muli (Scf.iv 0#32 1#32 k) 4#32) (Scalar.shrsi (jw j) 5#32)

/-- The tile's lane numbers. -/
def lanes : IVec S16 32 := iota .scVector S16 32 [0] iota_S16_d0_w32_scVector

/-- The four index vectors of an inner trip: the present times of the two channels, and the delayed ones. -/
def ia (k : Fin k0_t1_loop.trips) (j : Fin k0_t2_loop.trips) : IVec S16 32 :=
  broadcast S16 (Scalar.addi (Scalar.addi (Scalar.muli (Scalar.muli 2#32 (cw j)) 256#32) 64#32) (ttw k j))
def ib (k : Fin k0_t1_loop.trips) (j : Fin k0_t2_loop.trips) : IVec S16 32 :=
  broadcast S16 (Scalar.addi (Scalar.addi (Scalar.muli (Scalar.addi (Scalar.muli 2#32 (cw j)) 1#32) 256#32) 64#32) (ttw k j))
def il (k : Fin k0_t1_loop.trips) (j : Fin k0_t2_loop.trips) (g : BitVec 32) : IVec S16 32 :=
  addi (broadcast S16 (Scalar.addi (Scalar.addi (Scalar.muli (Scalar.addi (Scalar.muli 2#32 (cw j)) 1#32) 256#32) (ttw k j)) g)) lanes
def ir (k : Fin k0_t1_loop.trips) (j : Fin k0_t2_loop.trips) (g : BitVec 32) : IVec S16 32 :=
  subi (broadcast S16 (Scalar.subi (Scalar.addi (Scalar.addi (Scalar.muli (Scalar.muli 2#32 (cw j)) 256#32) (ttw k j)) 63#32) g)) lanes

/-- An inner trip: the 128 features of one time and channel pair. -/
def pairRow (k : Fin k0_t1_loop.trips) (j : Fin k0_t2_loop.trips) : TP F i Unit := do
  let a ← gath (ia k j)
  let b ← gath (ib k j)
  half (k0_off19 k j) (k0_off19_inb k j) (il k j 0#32) a
  half (k0_off20 k j) (k0_off20_inb k j) (ir k j 0#32) b
  half (k0_off21 k j) (k0_off21_inb k j) (il k j 16#32) a
  half (k0_off22 k j) (k0_off22_inb k j) (ir k j 16#32) b
  half (k0_off23 k j) (k0_off23_inb k j) (il k j 32#32) a
  half (k0_off24 k j) (k0_off24_inb k j) (ir k j 32#32) b
  half (k0_off25 k j) (k0_off25_inb k j) (il k j 48#32) a
  half (k0_off26 k j) (k0_off26_inb k j) (ir k j 48#32) b

/-! ## The copies out -/

/-- The semaphore of a slot. -/
abbrev slotSem (b : Fin 1 → Nat) (hb : ∀ a, b a + S1.size a ≤ S2.size a) : DmaSems sig S_ :=
  (cc0_scratch4.slice (Rect.unit (s := S2) b S1.size hb)).squeeze S_ squeezes_S1_S_

/-- A wait for one row's copy out on a slot's semaphore. -/
def wt (b : Fin 1 → Nat) (hb : ∀ a, b a + S1.size a ≤ S2.size a) : TP F i PUnit :=
  Prog.lift (.waitDma2 (slotSem b hb).sem
    ((ov.slice (Rect.unit (s := S8x4096) ![0, 0] S1x4096.size inb_S8x4096_S1x4096_0_0) (fun _ => rfl)).squeeze S4096 squeezes_S1x4096_S4096)
    (oh.slice (Rect.unit (s := S16777216) ![0] S4096.size inb_S16777216_S4096_0) (fun _ => rfl))
    ((View.wordExact_bits rfl).reshape _ _) (View.wordExact_bits rfl))

/-- The four waits for a slot's rows. -/
def wt4 (b : Fin 1 → Nat) (hb : ∀ a, b a + S1.size a ≤ S2.size a) : TP F i PUnit := do
  wt b hb
  wt b hb
  wt b hb
  wt b hb

/-- Row `r` of the trip's slot, and where it goes. -/
abbrev srcRow (k : Fin k0_t1_loop.trips) (r : Fin 4) : Memref sig .scVector .vmem S4096 .f32 :=
  (ov.slice (Rect.unit (s := S8x4096) (k0_off27 k (BitVec.ofNat 32 r.val)) S1x4096.size (k0_off27_inb k r)) (fun _ => rfl)).squeeze S4096 squeezes_S1x4096_S4096
abbrev dstRow (i : grid0.Coords) (k : Fin k0_t1_loop.trips) (r : Fin 4) : Memref sig .scVector .hbm S4096 .f32 :=
  oh.slice (Rect.unit (s := S16777216) (k0_off28 i k (BitVec.ofNat 32 r.val)) S4096.size (k0_off28_inb i k r)) (fun _ => rfl)

def issue (k : Fin k0_t1_loop.trips) (r : Fin 4) : TP F i PUnit :=
  Prog.lift (.enqueueDma (srcRow k r) (.here (dstRow i k r)) (.dma (slotSem (k0_off29 k) (k0_off29_inb k)).sem)
    ((View.wordExact_bits rfl).reshape _ _) (View.wordExact_bits rfl) ⟨Or.inl rfl, trivial⟩)

/-! ## The body -/

/-- What a trip does between the scan and the copies out: the waits for the slot's earlier rows, and the rows. -/
def rows (k : Fin k0_t1_loop.trips) (c : C4 F) : TP F i (Σ' (_ : FVec F S16 .f32) (_ : FVec F S16 .f32), FVec F S16 .f32) := do
  if h : k0_cond1 k = 1#1 then do wt4 (k0_off18 k) (k0_off18_inb k h) else pure ⟨⟩
  Scf.Loop.for k0_t2_loop k0_t2_ok ⟨⟩ (fun j _ => pairRow k j)
  pure ⟨c.2.1, c.2.2.1, c.2.2.2⟩

/-- A trip of the outer loop. -/
def trip (w : FVec F S16 .f32) (k : Fin k0_t1_loop.trips) (c : C4 F) : TP F i (C4 F) := do
  let c ← scan4 k w c
  let r ← rows k c
  issue k 0
  issue k 1
  issue k 2
  issue k 3
  pure (c.1, r.1, r.2.1, r.2.2)

/-- The copies in, each waited for. -/
def copyIn : TP F i PUnit := do
  Prog.lift (.enqueueDma ((xh.slice (Rect.unit (s := S128x32x64) (k0_off1 i) S128x1x64.size (k0_off1_inb i)) (fun _ => rfl)).squeeze S128x64 squeezes_S128x1x64_S128x64)
    (.here xv) (.dma cc0_scoped0.sem) ((View.wordExact_bits rfl).reshape _ _) (Memref.isWhole_whole _).wordExact ⟨Or.inl rfl, trivial⟩)
  Prog.lift (.waitDma2 cc0_scoped0.sem ((xh.slice (Rect.unit (s := S128x32x64) (k0_off1 i) S128x1x64.size (k0_off1_inb i)) (fun _ => rfl)).squeeze S128x64 squeezes_S128x1x64_S128x64)
    xv ((View.wordExact_bits rfl).reshape _ _) (Memref.isWhole_whole _).wordExact)
  Prog.lift (.enqueueDma wh (.here wv) (.dma cc0_scoped1.sem) (Memref.isWhole_whole _).wordExact (Memref.isWhole_whole _).wordExact ⟨Or.inl rfl, trivial⟩)
  Prog.lift (.waitDma2 cc0_scoped1.sem wh wv (Memref.isWhole_whole _).wordExact (Memref.isWhole_whole _).wordExact)

/-- The stores of zeros, in the printed runs. -/
def zall (z : FVec F S16 .f32) : Nat → Nat → TP F i PUnit
  | _, 0 => pure ⟨⟩
  | n, cnt + 1 => do
    zeros z n 20
    zall z (n + 20) cnt

/-- What follows the copies in and the load of the weight. -/
def work (w : FVec F S16 .f32) : TP F i PUnit := do
  zeros k0_pay69 0 9
  zall k0_pay69 9 25
  zeros k0_pay69 509 3
  let _ ← Scf.Loop.for k0_t1_loop k0_t1_ok ((k0_pay69, k0_pay69, k0_pay69, k0_pay69) : C4 F) (trip w)
  wt ![0] inb_S2_S1_0
  wt ![0] inb_S2_S1_0
  wt ![0] inb_S2_S1_0
  wt ![0] inb_S2_S1_0
  wt ![1] inb_S2_S1_1
  wt ![1] inb_S2_S1_1
  wt ![1] inb_S2_S1_1
  wt ![1] inb_S2_S1_1

/-- The tile's body. -/
def body : TP F i PUnit := do
  copyIn
  let w : Vec F S16 .f32 ← Prog.lift (.load wv (Rect.unit (s := S16) ![0] S16.size inb_S16_S16_0).toLoadRect (View.loadsAt_vmem h_S16))
  work w

end Cert.KernelIdeal.Lif
end
-- ==== Proof.Lif.PrgEq.lean ====
/-
  The printed body is the program of Prg.lean.
-/
module

public import proofs.«01_k».proof.Proof.Lif.Prg

@[expose] public section

set_option synthInstance.maxSize 4096

noncomputable section

namespace Cert.KernelIdeal.Lif

open Idealize.ShloMosaic Idealize.SL.Sem Cert.KernelIdeal.Gen

variable {F : FTy → Type} [FloatOps F]

set_option maxRecDepth 65536

set_option maxHeartbeats 4000000

set_option maxHeartbeats 4000000

/-- A printed trip of the outer loop. -/
theorem trip_eq (i : grid0.Coords) (v1 : BitVec 32) (w : Vec F S16 .f32) (z : FVec F S16 .f32) :
    k0_t1_body i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 v1 w z lanes k0_pay70 = trip (i := i) w := by
  funext k c
  rfl

theorem part11_eq (i : grid0.Coords) (z : FVec F S16 .f32) :
    k0_part11 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 9 20 := rfl

theorem part12_eq (i : grid0.Coords) (z : FVec F S16 .f32) :
    k0_part12 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 29 20 := rfl

theorem part13_eq (i : grid0.Coords) (z : FVec F S16 .f32) :
    k0_part13 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 49 20 := rfl

theorem part14_eq (i : grid0.Coords) (z : FVec F S16 .f32) :
    k0_part14 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 69 20 := rfl

theorem part15_eq (i : grid0.Coords) (z : FVec F S16 .f32) :
    k0_part15 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 89 20 := rfl

theorem part16_eq (i : grid0.Coords) (z : FVec F S16 .f32) :
    k0_part16 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 109 20 := rfl

theorem part17_eq (i : grid0.Coords) (z : FVec F S16 .f32) :
    k0_part17 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 129 20 := rfl

theorem part18_eq (i : grid0.Coords) (z : FVec F S16 .f32) :
    k0_part18 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 149 20 := rfl

theorem part19_eq (i : grid0.Coords) (z : FVec F S16 .f32) :
    k0_part19 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 169 20 := rfl

theorem part20_eq (i : grid0.Coords) (z : FVec F S16 .f32) :
    k0_part20 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 189 20 := rfl

theorem part21_eq (i : grid0.Coords) (z : FVec F S16 .f32) :
    k0_part21 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 209 20 := rfl

theorem part22_eq (i : grid0.Coords) (z : FVec F S16 .f32) :
    k0_part22 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 229 20 := rfl

theorem part23_eq (i : grid0.Coords) (z : FVec F S16 .f32) :
    k0_part23 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 249 20 := rfl

theorem part24_eq (i : grid0.Coords) (z : FVec F S16 .f32) :
    k0_part24 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 269 20 := rfl

theorem part25_eq (i : grid0.Coords) (z : FVec F S16 .f32) :
    k0_part25 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 289 20 := rfl

theorem part26_eq (i : grid0.Coords) (z : FVec F S16 .f32) :
    k0_part26 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 309 20 := rfl

theorem part27_eq (i : grid0.Coords) (z : FVec F S16 .f32) :
    k0_part27 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 329 20 := rfl

theorem part28_eq (i : grid0.Coords) (z : FVec F S16 .f32) :
    k0_part28 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 349 20 := rfl

theorem part29_eq (i : grid0.Coords) (z : FVec F S16 .f32) :
    k0_part29 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 369 20 := rfl

theorem part30_eq (i : grid0.Coords) (z : FVec F S16 .f32) :
    k0_part30 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 389 20 := rfl

theorem part31_eq (i : grid0.Coords) (z : FVec F S16 .f32) :
    k0_part31 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 409 20 := rfl

theorem part32_eq (i : grid0.Coords) (z : FVec F S16 .f32) :
    k0_part32 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 429 20 := rfl

theorem part33_eq (i : grid0.Coords) (z : FVec F S16 .f32) :
    k0_part33 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 449 20 := rfl

theorem part34_eq (i : grid0.Coords) (z : FVec F S16 .f32) :
    k0_part34 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 469 20 := rfl

theorem part35_eq (i : grid0.Coords) (z : FVec F S16 .f32) :
    k0_part35 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 z = zeros (i := i) z 489 20 := rfl

/-- The printed body. -/
theorem body_eq (i : grid0.Coords) :
    cc0__sc_body (F := F) i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 = body (i := i) := by
  have h10 : k0_part10 (F := F) i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 = (do
      copyIn
      let w : Vec F S16 .f32 ← Prog.lift (.load wv (Rect.unit (s := S16) ![0] S16.size inb_S16_S16_0).toLoadRect (View.loadsAt_vmem h_S16))
      zeros k0_pay69 0 9
      pure ⟨Scalar.addi (Scalar.muli (BitVec.ofNat 32 (i 1).val) 2#32) (BitVec.ofNat 32 (i 0).val), w, k0_pay69, lanes, k0_pay70⟩) := rfl
  have h36 : ∀ (v1 : BitVec 32) (w : Vec F S16 .f32) (z : FVec F S16 .f32), k0_part36 i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 v1 w z lanes k0_pay70 = (do
      zeros z 509 3
      let _ ← Scf.Loop.for k0_t1_loop k0_t1_ok ((z, z, z, z) : C4 F) (trip w)
      wt ![0] inb_S2_S1_0
      wt ![0] inb_S2_S1_0
      wt ![0] inb_S2_S1_0) := fun v1 w z => by
    rw [← trip_eq i v1 w z]
    rfl
  have h37 : k0_part37 (F := F) i xh (Memref.isWhole_whole _) wh (Memref.isWhole_whole _) oh (Memref.isWhole_whole _) xv (Memref.isWhole_whole _) bv (Memref.isWhole_whole _) ov (Memref.isWhole_whole _) wv (Memref.isWhole_whole _) cc0_scratch4 cc0_scoped0 cc0_scoped1 = (do
      wt ![0] inb_S2_S1_0
      wt ![1] inb_S2_S1_1
      wt ![1] inb_S2_S1_1
      wt ![1] inb_S2_S1_1) := rfl
  unfold cc0__sc_body
  simp only [h10, h37, bind_assoc, pure_bind]
  simp only [h36, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, bind_assoc, pure_bind]
  unfold body work
  simp only [zall, bind_assoc, pure_bind]
  rfl
end Cert.KernelIdeal.Lif
end
-- ==== Proof.Lif.Base.lean ====
/-
  The launch's names for this kernel, and the values the kernel computes: the filter's state of a column after so many
  times, the padded history in the tile's scratch, and an output row.
-/
module

public import proofs.«01_k».proof.Proof.Lif.PrgEq
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.KernelIdeal.Lif

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshake's rounds, and the copies' tallies -/

abbrev UH : Type := URounds (GSem nD τ sig) ℕ
abbrev UU : Type := UH × Counters

local notation "𝕄" => MT nD τ sig (HIx 1) (Elt F) ℕ UU ℕ

abbrev EH : Emb UH 𝕄 := embL
abbrev EC : UEmb Counters 𝕄 := countersEmb

/-! ## The tile -/

variable (d : Dev nD) (i : grid0.Coords)

/-- The thread of the tile at grid coordinates `i` on device `d`. -/
abbrev th : Thread nD τ := V d ((i 0).castLE hcore0) ((i 1).castLE hsub0)

/-- The tile's four scratch buffers and the three arrays in HBM, as it reaches them. -/
abbrev xvL : Loc nD τ sig := (th d i).loc cc0_scratch0
abbrev bvL : Loc nD τ sig := (th d i).loc cc0_scratch1
abbrev ovL : Loc nD τ sig := (th d i).loc cc0_scratch2
abbrev wvL : Loc nD τ sig := (th d i).loc cc0_scratch3
abbrev xL (d : Dev nD) : Loc nD τ sig := (SparseCore.T d).loc main_v0
abbrev wL (d : Dev nD) : Loc nD τ sig := (SparseCore.T d).loc main_v1
abbrev oL (d : Dev nD) : Loc nD τ sig := (SparseCore.T d).loc main_v2

/-- Batch row of the tile: two to a subcore. -/
def tn (i : grid0.Coords) : Nat := 2 * (i 1).val + (i 0).val

theorem tn_lt (i : grid0.Coords) : tn i < 32 := by
  have h0 : (i 0).val < 2 := (i 0).isLt
  have h1 : (i 1).val < 16 := (i 1).isLt
  unfold tn; omega

/-! ## Values -/

variable [FloatOps F]

/-- The two words the program writes as constants. -/
abbrev zf : F .f32 := Scalar.ofBits .f32 0x00000000#32
abbrev cf : F .f32 := Scalar.ofBits .f32 0x3F666666#32

/-- Time `t`, column `c` of a slab. -/
def sx (t c : Nat) : S128x64.Idx := ix2 (n0 := 128) (n1 := 64) ⟨t % 128, Nat.mod_lt _ (by decide)⟩ ⟨c % 64, Nat.mod_lt _ (by decide)⟩

/-- The filter's state of column `c` after `t` times. -/
def vst (X : FVec F S128x64 .f32) (c : Nat) : Nat → F .f32
  | 0 => zf
  | t + 1 => FloatOps.addf (FloatOps.mulf cf (vst X c t)) (X (sx t c))

/-- Word `r` of column `c`'s padded history: 64 zeros, then the weighted states. -/
def hist (X : FVec F S128x64 .f32) (w : F .f32) (c r : Nat) : F .f32 :=
  if r < 64 then zf else FloatOps.mulf (vst X c (r - 63)) w

/-- What the kernel writes for time `t`, channel pair `c` and feature `f`. -/
def oval (X : FVec F S128x64 .f32) (w : F .f32) (t c f : Nat) : F .f32 :=
  if f < 64 then FloatOps.addf (hist X w (2 * c) (t + 64)) (hist X w (2 * c + 1) (t + f))
  else FloatOps.addf (hist X w (2 * c + 1) (t + 64)) (hist X w (2 * c) (t + 127 - f))

/-- The columns `16 g … 16 g + 15`. -/
def cvec (X : FVec F S128x64 .f32) (g t : Nat) : FVec F S16 .f32 := fun l => vst X (16 * g + (l 0).val) t

/-- The padded history up to time `t` exclusive, and of the first `16 g` columns at time `t` too. -/
def Good (X : FVec F S128x64 .f32) (w : F .f32) (t g : Nat) (f : FVec F S16384 .f32) : Prop :=
  ∀ p : S16384.Idx, (p 0).val % 256 < 64 + t ∨ ((p 0).val % 256 = 64 + t ∧ (p 0).val / 256 < 16 * g) →
    f p = hist X w ((p 0).val / 256) ((p 0).val % 256)

/-- Batch row `n` of the reshaped input. -/
def slab (X : FVec F S128x32x64 .f32) (n : Nat) : FVec F S128x64 .f32 := fun j =>
  X (ix3 (n0 := 128) (n1 := 32) (n2 := 64) (j 0) ⟨n % 32, Nat.mod_lt _ (by decide)⟩ (j 1))

/-- The flat output. -/
def outF (X : FVec F S128x32x64 .f32) (w : F .f32) : FVec F S16777216 .f32 := fun p =>
  oval (slab X ((p 0).val / 4096 % 32)) w ((p 0).val / 131072) ((p 0).val / 128 % 32) ((p 0).val % 128)

/-! ## Zeroing the history -/

/-- The places of the first `n` stores of zeros hold zero. -/
def Zer (n : Nat) (f : FVec F S16384 .f32) : Prop :=
  ∀ p : S16384.Idx, ∀ k < n, zoff k ≤ (p 0).val → (p 0).val < zoff k + 16 → f p = zf

theorem good_of_zer {X : FVec F S128x64 .f32} {w : F .f32} {f : FVec F S16384 .f32} (h : Zer 512 f) : Good X w 0 0 f := by
  intro p hp
  have hlt : (p 0).val < 16384 := (p 0).isLt
  have hr : (p 0).val % 256 < 64 := by omega
  unfold hist
  rw [if_pos hr]
  refine h p (8 * ((p 0).val / 256) + 2 * ((p 0).val % 256 / 16)) (by omega) ?_ ?_ <;> unfold zoff <;> omega

theorem good_next {X : FVec F S128x64 .f32} {w : F .f32} {t : Nat} {f : FVec F S16384 .f32} (h : Good X w t 4 f) : Good X w (t + 1) 0 f := by
  intro p hp
  have hlt : (p 0).val < 16384 := (p 0).isLt
  exact h p (by omega)

theorem wp_zstep (n : Nat) :
    iprop(∃ f : Buf (Elt F) (bvL d i), ⌜Zer (F := F) n f⌝ ∗ (bvL d i ↦{fullShare} f))
      ⊢ wp frame (wpE (defs₀ (F := F)) 𝒱₀ (th d i) none) Set.univ (zstep (F := F) (i := i) k0_pay69 n)
          fun _ => (iprop(∃ f : Buf (Elt F) (bvL d i), ⌜Zer (F := F) (n + 1) f⌝ ∗ (bvL d i ↦{fullShare} f)) : sProp 𝕄) := by
  unfold zstep
  simp only [Prog.lift, Prog.bind_op, Prog.bind_ret, Prog.pure_eq_ret]
  iintro ⟨%f, %hf, H⟩
  iapply (wp_load 𝒱₀ (th d i) none Set.univ (m := bv) (S := Finset.univ) (Finset.subset_univ _)) $$ H; iintro H
  iapply (wp_store 𝒱₀ (th d i) none Set.univ (m := bv) (r := Rect.unit (s := S16384) ![zoff n] S16.size (zoff_inb n)) (Mk := Finset.univ) (S := Finset.univ) (Finset.subset_univ _)) $$ H; iintro H
  rw [wp_ret]; imodintro
  iexists _; isplitr
  · ipureintro
    rotate_left
    · exact (bv.access (Rect.unit (s := S16384) ![zoff n] S16.size (zoff_inb n))).write (Elt F) f k0_pay69 Finset.univ
    intro p k hk h1 h2
    show ((View.whole cc0_scratch1).slice (Rect.unit (s := S16384) ![zoff n] S16.size (zoff_inb n))).write (Elt F) f k0_pay69 Finset.univ p = zf
    rw [View.write_whole_slice_unit]
    unfold updateSlice
    split
    · rfl
    · next hout =>
      refine hf p k (lt_of_le_of_ne (Nat.lt_succ_iff.mp hk) ?_) h1 h2
      rintro rfl
      exact hout fun a => by
        rw [Fin.eq_zero a]; exact ⟨h1, h2⟩
  · iexact H

theorem wp_zeros (cnt n : Nat) :
    iprop(∃ f : Buf (Elt F) (bvL d i), ⌜Zer (F := F) n f⌝ ∗ (bvL d i ↦{fullShare} f))
      ⊢ wp frame (wpE (defs₀ (F := F)) 𝒱₀ (th d i) none) Set.univ (zeros (F := F) (i := i) k0_pay69 n cnt)
          fun _ => (iprop(∃ f : Buf (Elt F) (bvL d i), ⌜Zer (F := F) (n + cnt) f⌝ ∗ (bvL d i ↦{fullShare} f)) : sProp 𝕄) := by
  induction cnt generalizing n with
  | zero =>
    unfold zeros
    rw [Prog.pure_eq_ret, wp_ret]
    iintro H; imodintro; iexact H
  | succ cnt ih =>
    unfold zeros
    rw [wp_bind]
    refine (wp_zstep d i n).trans (wp_mono frame _ _ fun _ => ?_)
    have := ih (n + 1)
    rwa [show n + 1 + cnt = n + (cnt + 1) by omega] at this

theorem wp_zall (cnt n : Nat) :
    iprop(∃ f : Buf (Elt F) (bvL d i), ⌜Zer (F := F) n f⌝ ∗ (bvL d i ↦{fullShare} f))
      ⊢ wp frame (wpE (defs₀ (F := F)) 𝒱₀ (th d i) none) Set.univ (zall (F := F) (i := i) k0_pay69 n cnt)
          fun _ => (iprop(∃ f : Buf (Elt F) (bvL d i), ⌜Zer (F := F) (n + 20 * cnt) f⌝ ∗ (bvL d i ↦{fullShare} f)) : sProp 𝕄) := by
  induction cnt generalizing n with
  | zero =>
    unfold zall
    rw [Prog.pure_eq_ret, wp_ret]
    iintro H; imodintro; iexact H
  | succ cnt ih =>
    unfold zall
    rw [wp_bind]
    refine (wp_zeros d i 20 n).trans (wp_mono frame _ _ fun _ => ?_)
    have := ih (n + 20)
    rwa [show n + 20 + 20 * cnt = n + 20 * (cnt + 1) by omega] at this

end Cert.KernelIdeal.Lif
end
-- ==== Proof.Lif.Scan.lean ====
/-
  The scan's steps: sixteen columns of one time read out of the slab, the filter applied, the weighted states scattered
  into their columns' padded histories.
-/
module

public import proofs.«01_k».proof.Proof.Lif.Base

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2)

variable {F : FTy → Type}

local notation "𝕄" => MT nD τ sig (HIx 1) (Elt F) ℕ UU ℕ

variable [FloatOps F]

/-! ## A scatter read at one place -/

/-- A scatter's lanes in order leave `y` at `p` when every lane that goes there carries `y`, and `y` is there already or
    some lane goes there. -/
theorem storeIdx_eq {d : Fin 1 → Nat} {s : Shape} {e : EltTy} (f : Vec F s e) (idxs : Fin s.rank → IVec ⟨1, d⟩ 32) (v : Vec F ⟨1, d⟩ e)
    (h : ∀ a x, (idxs a x).toNat < s.size a) (p : s.Idx) (y : Elt F e)
    (hv : ∀ k : Fin (d 0), (∀ a, (p a).val = (idxs a (Shape.ofLane k)).toNat) → v (Shape.ofLane k) = y)
    (hy : f p = y ∨ ∃ k : Fin (d 0), ∀ a, (p a).val = (idxs a (Shape.ofLane k)).toNat) :
    storeIdx f idxs v (fun _ => 1#1) false h p = y := by
  have key : ∀ (L : List (Fin (d 0))) (g : Vec F s e),
      (g p = y ∨ ∃ k ∈ L, ∀ a, (p a).val = (idxs a (Shape.ofLane k)).toNat) →
      (L.foldl (fun (g : Vec F s e) k => fun j => if (∀ a, (j a).val = (idxAt idxs h (Shape.ofLane k) a).val) then v (Shape.ofLane k) else g j) g) p = y := by
    intro L
    induction L with
    | nil =>
      intro g hg
      rcases hg with hg | ⟨k, hk, -⟩
      · exact hg
      · exact absurd hk List.not_mem_nil
    | cons a L ih =>
      intro g hg
      rw [List.foldl_cons]
      apply ih
      by_cases ha : ∀ b, (p b).val = (idxs b (Shape.ofLane a)).toNat
      · left
        exact (if_pos ha).trans (hv a ha)
      · rcases hg with hg | ⟨k, hk, hk'⟩
        · left
          exact (if_neg ha).trans hg
        · rcases List.mem_cons.mp hk with rfl | hk
          · exact absurd hk' ha
          · exact Or.inr ⟨k, hk, hk'⟩
  unfold storeIdx
  simp only [Bool.false_eq_true, ↓reduceIte, BitVec.ofNat_eq_ofNat]
  exact key (List.finRange (d 0)) f (hy.imp_right fun ⟨k, hk⟩ => ⟨k, List.mem_finRange k, hk⟩)

/-! ## The words -/

theorem tw_toNat : ∀ (k : Fin k0_t1_loop.trips) (u : Fin 4), (tw k (BitVec.ofNat 32 u.val)).toNat = 4 * k.val + u.val := by
  decide +kernel

theorem sidx_toNat (g t : Nat) (hg : g < 4) (ht : t < 128) (b tword : BitVec 32) (hb : b.toNat = 64 + 4096 * g) (htw : tword.toNat = t) (l : S16.Idx) :
    (sidx b tword l).toNat = 64 + 4096 * g + 256 * (l 0).val + t := by
  have hl : (l 0).val < 16 := (l 0).isLt
  have e : sidx b tword l = b + BitVec.ofNat 32 (0 * 16 + (l 0).val) * 256#32 + tword := rfl
  rw [e]
  simp only [BitVec.toNat_add, BitVec.toNat_mul, BitVec.toNat_ofNat, hb, htw]
  omega

theorem sidx_ok (g t : Nat) (hg : g < 4) (ht : t < 128) (b tword : BitVec 32) (hb : b.toNat = 64 + 4096 * g) (htw : tword.toNat = t) : k0_chk1 (sidx b tword) := by
  intro a x
  have hl : (x 0).val < 16 := (x 0).isLt
  fin_cases a
  show (sidx b tword x).toNat < 16384
  rw [sidx_toNat g t hg ht b tword hb htw]
  omega

/-! ## A step -/

/-- Sixteen columns of the slab's time `t`, as the load reads them. -/
theorem row_apply (X : FVec F S128x64 .f32) (off : Fin 2 → Nat) (hoff : ∀ a, off a + S1x16.size a ≤ S128x64.size a) (t g : Nat) (ht : t < 128) (hg : g < 4)
    (he : off = ![t, 16 * g]) (l : Fin 16) :
    shapeCast S16 ((xv.view.readAt (Elt F) (Rect.unit (s := S128x64) off S1x16.size hoff).toLoadRect X : Vec F S1x16 .f32)) shapeCasts_S1x16_S16 (ix1 (n := 16) l)
      = X (sx t (16 * g + l.val)) := by
  subst he
  refine (ValueIdx.shapeCast_1a_a_apply (a := 16) _ _ l).trans ?_
  show X _ = X _
  congr 1
  funext a
  apply Fin.ext
  fin_cases a
  · show t + 1 * 0 = t % 128
    omega
  · show 16 * g + 1 * l.val = (16 * g + l.val) % 64
    have := l.isLt
    omega

theorem nxt_cvec (X : FVec F S128x64 .f32) (off : Fin 2 → Nat) (hoff : ∀ a, off a + S1x16.size a ≤ S128x64.size a) (t g : Nat) (ht : t < 128) (hg : g < 4)
    (he : off = ![t, 16 * g]) :
    nxt (cvec X g t) (xv.view.readAt (Elt F) (Rect.unit (s := S128x64) off S1x16.size hoff).toLoadRect X : Vec F S1x16 .f32) = cvec X g (t + 1) := by
  funext l
  rw [eq_ix1 (n := 16) l]
  show FloatOps.addf (FloatOps.mulf cf (vst X (16 * g + (l 0).val) t)) _ = FloatOps.addf (FloatOps.mulf cf (vst X (16 * g + (l 0).val) t)) (X (sx t (16 * g + (l 0).val)))
  congr 1
  exact row_apply X off hoff t g ht hg he (l 0)

/-- The histories after a step's scatter. -/
theorem good_step (X : FVec F S128x64 .f32) (w : F .f32) (t g : Nat) (ht : t < 128) (hg : g < 4) (b tword : BitVec 32) (hb : b.toNat = 64 + 4096 * g)
    (htw : tword.toNat = t) (f : FVec F S16384 .f32) (hf : Good X w t g f) (h : ∀ a x, ((![sidx b tword] : Fin 1 → IVec S16 32) a x).toNat < S16384.size a) :
    Good X w t (g + 1) (storeIdx (F := F) (s := S16384) (e := .f32) f ![sidx b tword] (mulf (cvec X g (t + 1)) (fun _ => w)) (fun _ => 1#1) false h) := by
  intro p hp
  have hlt : (p 0).val < 16384 := (p 0).isLt
  refine storeIdx_eq (F := F) (s := S16384) (e := .f32) f ![sidx b tword] (mulf (cvec X g (t + 1)) (fun _ => w)) h p _ ?_ ?_
  · intro k hk
    have hk16 : k.val < 16 := k.isLt
    have h0 : (p 0).val = 64 + 4096 * g + 256 * k.val + t := (hk 0).trans (sidx_toNat g t hg ht b tword hb htw (Shape.ofLane k))
    show FloatOps.mulf (vst X (16 * g + k.val) (t + 1)) w = _
    unfold hist
    rw [if_neg (by omega), show (p 0).val / 256 = 16 * g + k.val by omega, show (p 0).val % 256 - 63 = t + 1 by omega]
  · by_cases hold : (p 0).val % 256 < 64 + t ∨ ((p 0).val % 256 = 64 + t ∧ (p 0).val / 256 < 16 * g)
    · exact Or.inl (hf p hold)
    · refine Or.inr ⟨(⟨(p 0).val / 256 - 16 * g, by omega⟩ : Fin 16), fun a => ?_⟩
      fin_cases a
      refine Eq.trans ?_ (sidx_toNat g t hg ht b tword hb htw (Shape.ofLane (⟨(p 0).val / 256 - 16 * g, by omega⟩ : Fin 16))).symm
      show (p 0).val = 64 + 4096 * g + 256 * ((p 0).val / 256 - 16 * g) + t
      omega

theorem bv_write (f : (bv.access (.whole S16384)).ty.Contents (Elt F)) (v : (Rect.whole S16384).shape.Idx → Elt F .f32) :
    (bv.access (.whole S16384)).write (Elt F) f v Finset.univ = v := Memref.write_access_whole_univ (Elt F) cc0_scratch1 f v
theorem bv_read (f : (bv.access (.whole S16384)).ty.Contents (Elt F)) : (bv.access (.whole S16384)).read (Elt F) f = f :=
  Memref.read_access_whole (Elt F) cc0_scratch1 f
theorem bv_set : (bv.access (.whole S16384)).set = Finset.univ := Memref.set_access_whole _

variable (d : Dev nD) (i : grid0.Coords)

/-- The histories held whole, as an indexed access holds them. -/
theorem bv_pts (q : PosShare TreeShare) (f : Buf (Elt F) (bvL d i)) :
    (bvL d i ↦{q} f : sProp 𝕄) = ((bv.access (.whole S16384)).loc (th d i) ↦[(bv.access (.whole S16384)).set]{q} f) := by rw [bv_set]

/-- The slab, and the histories so far. -/
abbrev Scn (X : FVec F S128x64 .f32) (w : F .f32) (t g : Nat) : sProp 𝕄 :=
  iprop((xvL d i ↦{fullShare} (X : Buf (Elt F) (xvL d i))) ∗ ∃ f : Buf (Elt F) (bvL d i), ⌜Good X w t g f⌝ ∗ (bvL d i ↦{fullShare} f))

theorem wp_scanStep (X : FVec F S128x64 .f32) (w : F .f32) (off : Fin 2 → Nat) (hoff : ∀ a, off a + S1x16.size a ≤ S128x64.size a) (t g : Nat) (ht : t < 128) (hg : g < 4)
    (he : off = ![t, 16 * g]) (b tword : BitVec 32) (hb : b.toNat = 64 + 4096 * g) (htw : tword.toNat = t) :
    Scn d i X w t g
      ⊢ wp frame (wpE (defs₀ (F := F)) 𝒱₀ (th d i) none) Set.univ (scanStep (F := F) (i := i) off hoff b tword (fun _ => w) (cvec X g t))
          fun c => (iprop(⌜c = cvec X g (t + 1)⌝ ∗ Scn d i X w t (g + 1)) : sProp 𝕄) := by
  unfold scanStep
  simp only [Prog.lift, Prog.bind_op, Prog.bind_ret, Prog.pure_eq_ret]
  iintro ⟨HX, %f, %hf, H⟩
  iapply (wp_load 𝒱₀ (th d i) none Set.univ (m := xv) (S := Finset.univ) (Finset.subset_univ _)) $$ HX; iintro HX
  rw [nxt_cvec X off hoff t g ht hg he]
  rw [wp_assume_of _ _ _ _ (sidx_ok g t hg ht b tword hb htw)]
  ihave H' := (Entails.of_eq (bv_pts d i fullShare f)) $$ H
  iapply (SparseCore.wp_vectorStoreIdx 𝒱₀ (th d i) none Set.univ (base := bv)) $$ H'; iintro H'
  ihave H := (Entails.of_eq (bv_pts d i fullShare _).symm) $$ H'
  rw [wp_ret]; imodintro
  isplitr
  · ipureintro; rfl
  isplitl [HX]; · iexact HX
  iexists _; isplitr
  rotate_left
  · iexact H
  · ipureintro
    rw [bv_write, bv_read]
    exact good_step X w t g ht hg b tword hb htw f hf _

/-- The four carries after `t` times. -/
abbrev c4 (X : FVec F S128x64 .f32) (t : Nat) : C4 F := (cvec X 0 t, cvec X 1 t, cvec X 2 t, cvec X 3 t)

theorem wp_scanRow (X : FVec F S128x64 .f32) (w : F .f32) (o : Fin 4 → Fin 2 → Nat) (ho : ∀ g a, o g a + S1x16.size a ≤ S128x64.size a) (t : Nat) (ht : t < 128)
    (he : ∀ g : Fin 4, o g = ![t, 16 * g.val]) (tword : BitVec 32) (htw : tword.toNat = t) :
    Scn d i X w t 0
      ⊢ wp frame (wpE (defs₀ (F := F)) 𝒱₀ (th d i) none) Set.univ (scanRow (F := F) (i := i) o ho tword (fun _ => w) (c4 X t))
          fun c => (iprop(⌜c = c4 X (t + 1)⌝ ∗ Scn d i X w (t + 1) 0) : sProp 𝕄) := by
  unfold scanRow
  rw [wp_bind]
  refine (wp_scanStep d i X w _ _ t 0 ht (by omega) (he 0) _ tword rfl htw).trans (wp_mono frame _ _ fun c0 => ?_)
  iintro ⟨%h0, H⟩
  subst h0
  rw [wp_bind]
  iapply ((wp_scanStep d i X w _ (ho 1) t 1 ht (by omega) (he 1) _ tword rfl htw).trans (wp_mono frame _ _ fun c1 => ?_)) $$ H
  iintro ⟨%h1, H⟩
  subst h1
  rw [wp_bind]
  iapply ((wp_scanStep d i X w _ (ho 2) t 2 ht (by omega) (he 2) _ tword rfl htw).trans (wp_mono frame _ _ fun c2 => ?_)) $$ H
  iintro ⟨%h2, H⟩
  subst h2
  rw [wp_bind]
  iapply ((wp_scanStep d i X w _ (ho 3) t 3 ht (by omega) (he 3) _ tword rfl htw).trans (wp_mono frame _ _ fun c3 => ?_)) $$ H
  iintro ⟨%h3, HX, %f, %hf, H⟩
  subst h3
  rw [Prog.pure_eq_ret, wp_ret]
  imodintro
  isplitr
  · ipureintro; rfl
  isplitl [HX]; · iexact HX
  iexists f; isplitr
  · ipureintro; exact good_next hf
  · iexact H

/-- The four times of trip `k`. -/
theorem wp_scan4 (X : FVec F S128x64 .f32) (w : F .f32) (k : Fin k0_t1_loop.trips) :
    Scn d i X w (4 * k.val) 0
      ⊢ wp frame (wpE (defs₀ (F := F)) 𝒱₀ (th d i) none) Set.univ (scan4 (F := F) (i := i) k (fun _ => w) (c4 X (4 * k.val)))
          fun c => (iprop(⌜c = c4 X (4 * k.val + 4)⌝ ∗ Scn d i X w (4 * k.val + 4) 0) : sProp 𝕄) := by
  have hk : k.val < 32 := k.isLt
  unfold scan4
  rw [wp_bind]
  refine (wp_scanRow d i X w _ _ (4 * k.val) (by omega) (roff_eq 0 k) _ (tw_toNat k 0)).trans (wp_mono frame _ _ fun c0 => ?_)
  iintro ⟨%h0, H⟩
  subst h0
  rw [wp_bind]
  iapply ((wp_scanRow d i X w _ (roff_inb 1 k) (4 * k.val + 1) (by omega) (roff_eq 1 k) _ (tw_toNat k 1)).trans (wp_mono frame _ _ fun c1 => ?_)) $$ H
  iintro ⟨%h1, H⟩
  subst h1
  rw [wp_bind]
  iapply ((wp_scanRow d i X w _ (roff_inb 2 k) (4 * k.val + 2) (by omega) (roff_eq 2 k) _ (tw_toNat k 2)).trans (wp_mono frame _ _ fun c2 => ?_)) $$ H
  iintro ⟨%h2, H⟩
  subst h2
  iapply (wp_scanRow d i X w _ (roff_inb 3 k) (4 * k.val + 3) (by omega) (roff_eq 3 k) _ (tw_toNat k 3)) $$ H

end Cert.KernelIdeal.Lif
end
-- ==== Proof.Lif.Words.lean ====
/-
  The words of the inner loop: where its stores go and what its gathers read, as numbers.
-/
module

public import proofs.«01_k».proof.Proof.Lif.Scan

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2)

variable {F : FTy → Type}

local notation "𝕄" => MT nD τ sig (HIx 1) (Elt F) ℕ UU ℕ

/-! ## The words -/

theorem cw_toNat : ∀ j : Fin k0_t2_loop.trips, (cw j).toNat = j.val % 32 := by decide +kernel
theorem ttw_toNat : ∀ (k : Fin k0_t1_loop.trips) (j : Fin k0_t2_loop.trips), (ttw k j).toNat = 4 * k.val + j.val / 32 := by decide +kernel

theorem off19_eq : ∀ (k : Fin k0_t1_loop.trips) (j : Fin k0_t2_loop.trips), k0_off19 k j = ![k.val % 2 * 4 + j.val / 32, j.val % 32 * 128 + 0] := by decide +kernel
theorem off20_eq : ∀ (k : Fin k0_t1_loop.trips) (j : Fin k0_t2_loop.trips), k0_off20 k j = ![k.val % 2 * 4 + j.val / 32, j.val % 32 * 128 + 64] := by decide +kernel
theorem off21_eq : ∀ (k : Fin k0_t1_loop.trips) (j : Fin k0_t2_loop.trips), k0_off21 k j = ![k.val % 2 * 4 + j.val / 32, j.val % 32 * 128 + 16] := by decide +kernel
theorem off22_eq : ∀ (k : Fin k0_t1_loop.trips) (j : Fin k0_t2_loop.trips), k0_off22 k j = ![k.val % 2 * 4 + j.val / 32, j.val % 32 * 128 + 80] := by decide +kernel
theorem off23_eq : ∀ (k : Fin k0_t1_loop.trips) (j : Fin k0_t2_loop.trips), k0_off23 k j = ![k.val % 2 * 4 + j.val / 32, j.val % 32 * 128 + 32] := by decide +kernel
theorem off24_eq : ∀ (k : Fin k0_t1_loop.trips) (j : Fin k0_t2_loop.trips), k0_off24 k j = ![k.val % 2 * 4 + j.val / 32, j.val % 32 * 128 + 96] := by decide +kernel
theorem off25_eq : ∀ (k : Fin k0_t1_loop.trips) (j : Fin k0_t2_loop.trips), k0_off25 k j = ![k.val % 2 * 4 + j.val / 32, j.val % 32 * 128 + 48] := by decide +kernel
theorem off26_eq : ∀ (k : Fin k0_t1_loop.trips) (j : Fin k0_t2_loop.trips), k0_off26 k j = ![k.val % 2 * 4 + j.val / 32, j.val % 32 * 128 + 112] := by decide +kernel

section Words

variable (k : Fin k0_t1_loop.trips) (j : Fin k0_t2_loop.trips)

theorem klt : k.val < 32 := k.isLt
theorem jlt : j.val < 128 := j.isLt

theorem ia_toNat (l : S16.Idx) : (ia k j l).toNat = 256 * (2 * (j.val % 32)) + (4 * k.val + j.val / 32 + 64) := by
  have e : ia k j l = 2#32 * cw j * 256#32 + 64#32 + ttw k j := rfl
  have := klt k; have := jlt j
  rw [e]
  simp only [BitVec.toNat_add, BitVec.toNat_mul, BitVec.toNat_ofNat, cw_toNat, ttw_toNat]
  omega

theorem ib_toNat (l : S16.Idx) : (ib k j l).toNat = 256 * (2 * (j.val % 32) + 1) + (4 * k.val + j.val / 32 + 64) := by
  have e : ib k j l = (2#32 * cw j + 1#32) * 256#32 + 64#32 + ttw k j := rfl
  have := klt k; have := jlt j
  rw [e]
  simp only [BitVec.toNat_add, BitVec.toNat_mul, BitVec.toNat_ofNat, cw_toNat, ttw_toNat]
  omega

theorem il_toNat (g : BitVec 32) (n : Nat) (hg : g.toNat = n) (hn : n ≤ 48) (l : S16.Idx) :
    (il k j g l).toNat = 256 * (2 * (j.val % 32) + 1) + (4 * k.val + j.val / 32 + (n + (l 0).val)) := by
  have e : il k j g l = (2#32 * cw j + 1#32) * 256#32 + ttw k j + g + BitVec.ofNat 32 (0 * 16 + (l 0).val) := rfl
  have := klt k; have := jlt j
  have hl : (l 0).val < 16 := (l 0).isLt
  rw [e]
  simp only [BitVec.toNat_add, BitVec.toNat_mul, BitVec.toNat_ofNat, cw_toNat, ttw_toNat, hg]
  omega

theorem ir_toNat (g : BitVec 32) (n : Nat) (hg : g.toNat = n) (hn : n ≤ 48) (l : S16.Idx) :
    (ir k j g l).toNat = 256 * (2 * (j.val % 32)) + (4 * k.val + j.val / 32 + 63 - (n + (l 0).val)) := by
  have e : ir k j g l = 2#32 * cw j * 256#32 + ttw k j + 63#32 - g - BitVec.ofNat 32 (0 * 16 + (l 0).val) := rfl
  have := klt k; have := jlt j
  have hl : (l 0).val < 16 := (l 0).isLt
  rw [e]
  simp only [BitVec.toNat_sub, BitVec.toNat_add, BitVec.toNat_mul, BitVec.toNat_ofNat, cw_toNat, ttw_toNat, hg]
  omega

end Words

end Cert.KernelIdeal.Lif
end
-- ==== Proof.Lif.Rows.lean ====
/-
  An output row: the gathers out of the padded histories, and the sixteen-feature
  stores that make up a time's 128 features for one channel pair.
-/
module

public import proofs.«01_k».proof.Proof.Lif.Words

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2)

variable {F : FTy → Type}

local notation "𝕄" => MT nD τ sig (HIx 1) (Elt F) ℕ UU ℕ

variable [FloatOps F]

/-! ## The rows of a slot -/

/-- The elements of slot `b` of the output rows. -/
def slotSet (b : Nat) : Finset S8x4096.Idx := Finset.univ.filter fun q => (q 0).val / 4 = b

theorem mem_slotSet {b : Nat} {q : S8x4096.Idx} : q ∈ slotSet b ↔ (q 0).val / 4 = b := by
  unfold slotSet; rw [Finset.mem_filter]; exact ⟨fun h => h.2, fun h => ⟨Finset.mem_univ _, h⟩⟩

/-- Slot `k % 2` holds the first `n` (time, channel pair) rows of trip `k`, and of the next one the halves starting at the
    features in `L`. -/
def OvP (X : FVec F S128x64 .f32) (w : F .f32) (k n : Nat) (L : List Nat) (f : FVec F S8x4096 .f32) : Prop :=
  ∀ q : S8x4096.Idx, (q 0).val / 4 = k % 2 →
    ((q 0).val % 4 * 32 + (q 1).val / 128 < n ∨ ((q 0).val % 4 * 32 + (q 1).val / 128 = n ∧ ∃ c ∈ L, c ≤ (q 1).val % 128 ∧ (q 1).val % 128 < c + 16)) →
    f q = oval X w (4 * k + (q 0).val % 4) ((q 1).val / 128) ((q 1).val % 128)

theorem ovP_zero (X : FVec F S128x64 .f32) (w : F .f32) (k : Nat) (f : FVec F S8x4096 .f32) : OvP X w k 0 [] f := by
  intro q _ h
  rcases h with h | ⟨-, c, hc, -⟩
  · omega
  · exact absurd hc List.not_mem_nil

theorem ovP_next {X : FVec F S128x64 .f32} {w : F .f32} {k n : Nat} {f : FVec F S8x4096 .f32} (h : OvP X w k n [112, 48, 96, 32, 80, 16, 64, 0] f) :
    OvP X w k (n + 1) [] f := by
  intro q hq hn
  refine h q hq ?_
  rcases hn with hn | ⟨-, c, hc, -⟩
  · rcases Nat.lt_succ_iff_lt_or_eq.mp hn with hn | hn
    · exact Or.inl hn
    · refine Or.inr ⟨hn, (q 1).val % 128 / 16 * 16, ?_, by omega, by omega⟩
      have h8 : (q 1).val % 128 / 16 < 8 := by omega
      generalize (q 1).val % 128 / 16 = z at h8 ⊢
      interval_cases z <;> decide
  · exact absurd hc List.not_mem_nil

theorem ovP_store {X : FVec F S128x64 .f32} {w : F .f32} {k n c0 : Nat} (hn : n < 128) (hc0 : c0 ≤ 112) (hc16 : c0 % 16 = 0) {L : List Nat} {f : FVec F S8x4096 .f32} (h : OvP X w k n L f)
    (off : Fin 2 → Nat) (hoff : ∀ a, off a + S1x16.size a ≤ S8x4096.size a) (he : off = ![k % 2 * 4 + n / 32, n % 32 * 128 + c0])
    (v : FVec F S16 .f32) (hv : ∀ l : S16.Idx, v l = oval X w (4 * k + n / 32) (n % 32) (c0 + (l 0).val)) :
    OvP X w k n (c0 :: L) ((ov.access (Rect.unit (s := S8x4096) off S1x16.size hoff)).write (Elt F) f (shapeCast S1x16 v shapeCasts_S16_S1x16) Finset.univ) := by
  intro q hq hq'
  show ((View.whole cc0_scratch2).slice (Rect.unit (s := S8x4096) off S1x16.size hoff)).write (Elt F) f (shapeCast S1x16 v shapeCasts_S16_S1x16) Finset.univ q = _
  rw [View.write_whole_slice_unit]
  unfold updateSlice
  subst he
  have hq0 : (q 0).val < 8 := (q 0).isLt
  have hq1 : (q 1).val < 4096 := (q 1).isLt
  split
  · next hin =>
    have h0 : k % 2 * 4 + n / 32 ≤ (q 0).val ∧ (q 0).val < k % 2 * 4 + n / 32 + 1 := hin 0
    have h1 : n % 32 * 128 + c0 ≤ (q 1).val ∧ (q 1).val < n % 32 * 128 + c0 + 16 := hin 1
    refine (shapeCast_apply v shapeCasts_S16_S1x16 _ (ix1 (n := 16) ⟨(q 1).val - (n % 32 * 128 + c0), by omega⟩) ?_).trans ?_
    · rw [Shape.rowMajor_val_one, Shape.rowMajor_val_two]
      show (q 1).val - (n % 32 * 128 + c0) = ((q 0).val - (k % 2 * 4 + n / 32)) * 16 + ((q 1).val - (n % 32 * 128 + c0))
      omega
    · rw [hv]
      show oval X w (4 * k + n / 32) (n % 32) (c0 + ((q 1).val - (n % 32 * 128 + c0))) = _
      rw [show 4 * k + n / 32 = 4 * k + (q 0).val % 4 by omega, show (q 1).val / 128 = n % 32 by omega,
        show (q 1).val % 128 = c0 + ((q 1).val - (n % 32 * 128 + c0)) by omega]
  · next hout =>
    refine h q hq (hq'.imp_right fun ⟨hn', c, hc, hc1, hc2⟩ => ⟨hn', ?_⟩)
    rcases List.mem_cons.mp hc with rfl | hc
    · exfalso
      refine hout fun a => ?_
      fin_cases a
      · show k % 2 * 4 + n / 32 ≤ (q 0).val ∧ (q 0).val < k % 2 * 4 + n / 32 + 1
        omega
      · show n % 32 * 128 + c ≤ (q 1).val ∧ (q 1).val < n % 32 * 128 + c + 16
        omega
    · exact ⟨c, hc, hc1, hc2⟩

/-- The rectangle of a sixteen-feature store lies in its slot. -/
theorem half_sub {k n c0 : Nat} (hn : n < 128) (off : Fin 2 → Nat) (hoff : ∀ a, off a + S1x16.size a ≤ S8x4096.size a) (he : off = ![k % 2 * 4 + n / 32, n % 32 * 128 + c0]) :
    (ov.access (Rect.unit (s := S8x4096) off S1x16.size hoff)).set ⊆ slotSet (k % 2) := by
  intro q hq
  rw [show (ov.access (Rect.unit (s := S8x4096) off S1x16.size hoff)).set = (Rect.unit (s := S8x4096) off S1x16.size hoff).set from View.set_slice_whole cc0_scratch2 _] at hq
  have := (Rect.mem_set_unit (inb := hoff)).mp hq 0
  subst he
  have h0 : k % 2 * 4 + n / 32 ≤ (q 0).val ∧ (q 0).val < k % 2 * 4 + n / 32 + 1 := this
  rw [mem_slotSet]
  omega

variable (d : Dev nD) (i : grid0.Coords)

/-- The histories up to time `t`. -/
abbrev His (X : FVec F S128x64 .f32) (w : F .f32) (t : Nat) : sProp 𝕄 :=
  iprop(∃ f : Buf (Elt F) (bvL d i), ⌜Good X w t 0 f⌝ ∗ (bvL d i ↦{fullShare} f))

/-- The slot's rows so far. -/
abbrev Ovs (X : FVec F S128x64 .f32) (w : F .f32) (k n : Nat) (L : List Nat) : sProp 𝕄 :=
  iprop(∃ f : Buf (Elt F) (ovL d i), ⌜OvP X w k n L f⌝ ∗ (ovL d i ↦[(slotSet (k % 2) : Finset (Idx (ovL d i)))]{fullShare} f))

theorem wp_gath (X : FVec F S128x64 .f32) (w : F .f32) (t : Nat) (v : IVec S16 32) (y : FVec F S16 .f32)
    (hv : ∀ l, ∃ c r, (v l).toNat = 256 * c + r ∧ c < 64 ∧ r < 256 ∧ r < 64 + t ∧ y l = hist X w c r) :
    His d i X w t
      ⊢ wp frame (wpE (defs₀ (F := F)) 𝒱₀ (th d i) none) Set.univ (gath (F := F) (i := i) v)
          fun a => (iprop(⌜a = y⌝ ∗ His d i X w t) : sProp 𝕄) := by
  have hok : k0_chk1 v := by
    intro a x
    fin_cases a
    obtain ⟨c, r, h, hc, hr, -⟩ := hv x
    show (v x).toNat < 16384
    omega
  unfold gath
  simp only [Prog.lift, Prog.bind_op, Prog.bind_ret, Prog.pure_eq_ret]
  iintro ⟨%f, %hf, H⟩
  rw [wp_assume_of _ _ _ _ hok]
  ihave H' := (Entails.of_eq (bv_pts d i fullShare f)) $$ H
  unfold SparseCore.vectorLoadIdx
  iapply (wp_load_rect 𝒱₀ (th d i) none Set.univ (m := bv) (r := Rect.whole S16384) (q := fullShare) (f := f) subset_rfl) $$ H'; iintro H'
  ihave H := (Entails.of_eq (bv_pts d i fullShare _).symm) $$ H'
  rw [wp_ret]; imodintro
  isplitr
  · ipureintro
    rw [bv_read]
    funext l
    obtain ⟨c, r, h, hc, hr, hrt, hy⟩ := hv l
    rw [hy]
    have e := hf (idxAt (s := S16384) ![v] (k0_idx1_inb v hok) l) (by
      left
      show (v l).toNat % 256 < 64 + t
      omega)
    refine e.trans ?_
    show hist X w ((v l).toNat / 256) ((v l).toNat % 256) = _
    rw [show (v l).toNat / 256 = c by omega, show (v l).toNat % 256 = r by omega]
  iexists f; isplitr
  · ipureintro; exact hf
  · iexact H

theorem wp_half (X : FVec F S128x64 .f32) (w : F .f32) (k n c0 : Nat) (hn : n < 128) (hc0 : c0 ≤ 112) (hc16 : c0 % 16 = 0) (L : List Nat)
    (off : Fin 2 → Nat) (hoff : ∀ a, off a + S1x16.size a ≤ S8x4096.size a) (he : off = ![k % 2 * 4 + n / 32, n % 32 * 128 + c0])
    (v : IVec S16 32) (a y : FVec F S16 .f32)
    (hv : ∀ l, ∃ c r, (v l).toNat = 256 * c + r ∧ c < 64 ∧ r < 256 ∧ r < 64 + (4 * k + 4) ∧ y l = hist X w c r)
    (hy : ∀ l : S16.Idx, addf a y l = oval X w (4 * k + n / 32) (n % 32) (c0 + (l 0).val)) :
    iprop(His d i X w (4 * k + 4) ∗ Ovs d i X w k n L)
      ⊢ wp frame (wpE (defs₀ (F := F)) 𝒱₀ (th d i) none) Set.univ (half (F := F) (i := i) off hoff v a)
          fun _ => (iprop(His d i X w (4 * k + 4) ∗ Ovs d i X w k n (c0 :: L)) : sProp 𝕄) := by
  unfold half
  rw [wp_bind]
  refine (sep_mono_left (wp_gath d i X w (4 * k + 4) v y hv)).trans ((wp_frame_r frame _ _).trans (wp_mono frame _ _ fun g => ?_))
  simp only [Prog.lift, Prog.bind_op, Prog.bind_ret, Prog.pure_eq_ret]
  iintro ⟨⟨%hg, HB⟩, %f, %hf, H⟩
  subst hg
  iapply (wp_load_rect 𝒱₀ (th d i) none Set.univ (m := ov) (r := Rect.unit (s := S8x4096) off S1x16.size hoff) (q := fullShare) (f := f) (half_sub hn off hoff he)) $$ H; iintro H
  iapply (wp_store 𝒱₀ (th d i) none Set.univ (m := ov) (r := Rect.unit (s := S8x4096) off S1x16.size hoff) (Mk := Finset.univ) (f := f)
    (by rw [View.setOn_univ]; exact half_sub hn off hoff he)) $$ H; iintro H
  rw [wp_ret]; imodintro
  isplitl [HB]; · iexact HB
  iexists _; isplitr
  rotate_left
  · iexact H
  · ipureintro
    exact ovP_store hn hc0 hc16 hf off hoff he (addf a g) hy

/-- The present states of a row's two channels. -/
abbrev pa (X : FVec F S128x64 .f32) (w : F .f32) (k n : Nat) : FVec F S16 .f32 := fun _ => hist X w (2 * (n % 32)) (4 * k + n / 32 + 64)
abbrev pb (X : FVec F S128x64 .f32) (w : F .f32) (k n : Nat) : FVec F S16 .f32 := fun _ => hist X w (2 * (n % 32) + 1) (4 * k + n / 32 + 64)

section Pair

variable (X : FVec F S128x64 .f32) (w : F .f32) (k : Fin k0_t1_loop.trips) (j : Fin k0_t2_loop.trips)

/-- Features `g … g + 15` below 64: channel 0 now, channel 1 delayed. -/
theorem wp_halfL (g : BitVec 32) (n : Nat) (hg : g.toNat = n) (hn : n ≤ 48) (hn16 : n % 16 = 0) (L : List Nat)
    (off : Fin 2 → Nat) (hoff : ∀ a, off a + S1x16.size a ≤ S8x4096.size a) (he : off = ![k.val % 2 * 4 + j.val / 32, j.val % 32 * 128 + n]) :
    iprop(His d i X w (4 * k.val + 4) ∗ Ovs d i X w k.val j.val L)
      ⊢ wp frame (wpE (defs₀ (F := F)) 𝒱₀ (th d i) none) Set.univ (half (F := F) (i := i) off hoff (il k j g) (pa X w k.val j.val))
          fun _ => (iprop(His d i X w (4 * k.val + 4) ∗ Ovs d i X w k.val j.val (n :: L)) : sProp 𝕄) := by
  have hk := klt k
  have hj := jlt j
  refine wp_half d i X w k.val j.val n hj (by omega) hn16 L off hoff he (il k j g) _
    (fun l => hist X w (2 * (j.val % 32) + 1) (4 * k.val + j.val / 32 + (n + (l 0).val))) ?_ ?_
  · intro l
    have hl : (l 0).val < 16 := (l 0).isLt
    exact ⟨_, _, il_toNat k j g n hg hn l, by omega, by omega, by omega, rfl⟩
  · intro l
    have hl : (l 0).val < 16 := (l 0).isLt
    unfold oval
    rw [if_pos (by omega)]
    rfl

/-- Features `64 + g … 64 + g + 15`: channel 1 now, channel 0 delayed. -/
theorem wp_halfR (g : BitVec 32) (n : Nat) (hg : g.toNat = n) (hn : n ≤ 48) (hn16 : n % 16 = 0) (L : List Nat) (c0 : Nat) (hc0 : c0 = 64 + n)
    (off : Fin 2 → Nat) (hoff : ∀ a, off a + S1x16.size a ≤ S8x4096.size a) (he : off = ![k.val % 2 * 4 + j.val / 32, j.val % 32 * 128 + c0]) :
    iprop(His d i X w (4 * k.val + 4) ∗ Ovs d i X w k.val j.val L)
      ⊢ wp frame (wpE (defs₀ (F := F)) 𝒱₀ (th d i) none) Set.univ (half (F := F) (i := i) off hoff (ir k j g) (pb X w k.val j.val))
          fun _ => (iprop(His d i X w (4 * k.val + 4) ∗ Ovs d i X w k.val j.val (c0 :: L)) : sProp 𝕄) := by
  have hk := klt k
  have hj := jlt j
  refine wp_half d i X w k.val j.val c0 hj (by omega) (by omega) L off hoff he (ir k j g) _
    (fun l => hist X w (2 * (j.val % 32)) (4 * k.val + j.val / 32 + 63 - (n + (l 0).val))) ?_ ?_
  · intro l
    have hl : (l 0).val < 16 := (l 0).isLt
    exact ⟨_, _, ir_toNat k j g n hg hn l, by omega, by omega, by omega, rfl⟩
  · intro l
    have hl : (l 0).val < 16 := (l 0).isLt
    unfold oval
    rw [if_neg (by omega), show 4 * k.val + j.val / 32 + 127 - (c0 + (l 0).val) = 4 * k.val + j.val / 32 + 63 - (n + (l 0).val) by omega]
    rfl

/-- An inner trip adds one row. -/
theorem wp_pairRow :
    iprop(His d i X w (4 * k.val + 4) ∗ Ovs d i X w k.val j.val [])
      ⊢ wp frame (wpE (defs₀ (F := F)) 𝒱₀ (th d i) none) Set.univ (pairRow (F := F) (i := i) k j)
          fun _ => (iprop(His d i X w (4 * k.val + 4) ∗ Ovs d i X w k.val (j.val + 1) []) : sProp 𝕄) := by
  have hk := klt k
  have hj := jlt j
  unfold pairRow
  rw [wp_bind]
  refine (sep_mono_left (wp_gath d i X w (4 * k.val + 4) (ia k j) (pa X w k.val j.val) fun l =>
    ⟨_, _, ia_toNat k j l, by omega, by omega, by omega, rfl⟩)).trans ((wp_frame_r frame _ _).trans (wp_mono frame _ _ fun a => ?_))
  iintro ⟨⟨%ha, HB⟩, HO⟩
  subst ha
  rw [wp_bind]
  icombine HB HO as H
  iapply ((sep_mono_left (wp_gath d i X w (4 * k.val + 4) (ib k j) (pb X w k.val j.val) fun l =>
    ⟨_, _, ib_toNat k j l, by omega, by omega, by omega, rfl⟩)).trans ((wp_frame_r frame _ _).trans (wp_mono frame _ _ fun b => ?_))) $$ H
  iintro ⟨⟨%hb, HB⟩, HO⟩
  subst hb
  icombine HB HO as H
  rw [wp_bind]
  iapply ((wp_halfL d i X w k j 0#32 0 rfl (by omega) rfl _ _ (k0_off19_inb k j) (off19_eq k j)).trans (wp_mono frame _ _ fun _ => ?_)) $$ H
  rw [wp_bind]
  refine (wp_halfR d i X w k j 0#32 0 rfl (by omega) rfl _ 64 rfl _ (k0_off20_inb k j) (off20_eq k j)).trans (wp_mono frame _ _ fun _ => ?_)
  rw [wp_bind]
  refine (wp_halfL d i X w k j 16#32 16 rfl (by omega) rfl _ _ (k0_off21_inb k j) (off21_eq k j)).trans (wp_mono frame _ _ fun _ => ?_)
  rw [wp_bind]
  refine (wp_halfR d i X w k j 16#32 16 rfl (by omega) rfl _ 80 rfl _ (k0_off22_inb k j) (off22_eq k j)).trans (wp_mono frame _ _ fun _ => ?_)
  rw [wp_bind]
  refine (wp_halfL d i X w k j 32#32 32 rfl (by omega) rfl _ _ (k0_off23_inb k j) (off23_eq k j)).trans (wp_mono frame _ _ fun _ => ?_)
  rw [wp_bind]
  refine (wp_halfR d i X w k j 32#32 32 rfl (by omega) rfl _ 96 rfl _ (k0_off24_inb k j) (off24_eq k j)).trans (wp_mono frame _ _ fun _ => ?_)
  rw [wp_bind]
  refine (wp_halfL d i X w k j 48#32 48 rfl (by omega) rfl _ _ (k0_off25_inb k j) (off25_eq k j)).trans (wp_mono frame _ _ fun _ => ?_)
  refine (wp_halfR d i X w k j 48#32 48 rfl (by omega) rfl _ 112 rfl _ (k0_off26_inb k j) (off26_eq k j)).trans (wp_mono frame _ _ fun _ => ?_)
  iintro ⟨HB, %f, %hf, H⟩
  isplitl [HB]; · iexact HB
  iexists f; isplitr
  · ipureintro; exact ovP_next hf
  · iexact H

end Pair

/-- The inner loop fills the slot. -/
theorem wp_inner (X : FVec F S128x64 .f32) (w : F .f32) (k : Fin k0_t1_loop.trips) :
    iprop(His d i X w (4 * k.val + 4) ∗ ∃ f : Buf (Elt F) (ovL d i), (ovL d i ↦[(slotSet (k.val % 2) : Finset (Idx (ovL d i)))]{fullShare} f))
      ⊢ wp frame (wpE (defs₀ (F := F)) 𝒱₀ (th d i) none) Set.univ (Scf.Loop.for k0_t2_loop k0_t2_ok ⟨⟩ (fun j _ => pairRow (F := F) (i := i) k j))
          fun _ => (iprop(His d i X w (4 * k.val + 4) ∗ Ovs d i X w k.val 128 []) : sProp 𝕄) := by
  iintro ⟨HB, %f, H⟩
  iapply (Scf.wp_for frame _ Set.univ _ _ _ _ _ _ (fun (n : Nat) (_ : Unit) => (iprop(His d i X w (4 * k.val + 4) ∗ Ovs d i X w k.val n []) : sProp 𝕄))
    (fun j _ => wp_pairRow d i X w k j)) $$ [HB H]
  isplitl [HB H]
  · isplitl [HB]; · iexact HB
    iexists f; isplitr
    · ipureintro; exact ovP_zero X w k.val f
    · iexact H
  · iintro %acc H
    iexact H

end Cert.KernelIdeal.Lif
end
-- ==== Proof.Lif.Copies.lean ====
/-
  The copies of the output rows: two slots of four rows, each with its own semaphore. A slot is
  idle (its rows held, its semaphore at zero) or its four rows are on their way out.
-/
module

public import proofs.«01_k».proof.Proof.Lif.Rows

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 eq_ix1 eq_ix2)

variable {F : FTy → Type}

local notation "𝕄" => MT nD τ sig (HIx 1) (Elt F) ℕ UU ℕ

variable [FloatOps F]

/-! ## Offsets -/

theorem off18_eq : ∀ k, k0_off18 k = ![k.val % 2] := by decide +kernel
theorem off29_eq : ∀ k, k0_off29 k = ![k.val % 2] := by decide +kernel
theorem off27_eq : ∀ (k : Fin k0_t1_loop.trips) (r : Fin 4), k0_off27 k (BitVec.ofNat 32 r.val) = ![k.val % 2 * 4 + r.val, 0] := by decide +kernel
theorem cond1_iff : ∀ k, k0_cond1 k = 1#1 ↔ 2 ≤ k.val := by decide +kernel

theorem sem_inb (b : Fin 2) : ∀ a, (![b.val] : Fin 1 → Nat) a + S1.size a ≤ S2.size a := by revert b; decide

/-- The semaphore of slot `b`. -/
def sq (b : Fin 2) : DmaSem sig := (slotSem ![b.val] (sem_inb b)).sem

/-- The slot of trip `k`. -/
def kb (k : Nat) : Fin 2 := ⟨k % 2, Nat.mod_lt _ (by decide)⟩

theorem sq_eq {off : Fin 1 → Nat} (h : ∀ a, off a + S1.size a ≤ S2.size a) {k : Nat} (e : off = ![k % 2]) : (slotSem off h).sem = sq (kb k) := by
  subst e; rfl

theorem kb_two (k : Nat) : kb (k + 2) = kb k := Fin.ext (by show (k + 2) % 2 = k % 2; omega)

/-! ## Sets -/

/-- Row `r` of slot `b`; the rows of slot `b` from `n` on. -/
def ovRow (b r : Nat) : Finset S8x4096.Idx := Finset.univ.filter fun q => (q 0).val / 4 = b ∧ (q 0).val % 4 = r
def ovFrom (b n : Nat) : Finset S8x4096.Idx := Finset.univ.filter fun q => (q 0).val / 4 = b ∧ n ≤ (q 0).val % 4
/-- Batch row `n` of the output: time `t`; the times from `lo` to `hi`. -/
def oRow (n t : Nat) : Finset S16777216.Idx := Finset.univ.filter fun p => (p 0).val / 4096 % 32 = n ∧ (p 0).val / 131072 = t
def oSet (n lo hi : Nat) : Finset S16777216.Idx := Finset.univ.filter fun p => (p 0).val / 4096 % 32 = n ∧ lo ≤ (p 0).val / 131072 ∧ (p 0).val / 131072 < hi

theorem mem_ovRow {b r : Nat} {q : S8x4096.Idx} : q ∈ ovRow b r ↔ (q 0).val / 4 = b ∧ (q 0).val % 4 = r := by
  unfold ovRow; rw [Finset.mem_filter]; exact ⟨fun h => h.2, fun h => ⟨Finset.mem_univ _, h⟩⟩
theorem mem_ovFrom {b n : Nat} {q : S8x4096.Idx} : q ∈ ovFrom b n ↔ (q 0).val / 4 = b ∧ n ≤ (q 0).val % 4 := by
  unfold ovFrom; rw [Finset.mem_filter]; exact ⟨fun h => h.2, fun h => ⟨Finset.mem_univ _, h⟩⟩
theorem mem_oRow {n t : Nat} {p : S16777216.Idx} : p ∈ oRow n t ↔ (p 0).val / 4096 % 32 = n ∧ (p 0).val / 131072 = t := by
  unfold oRow; rw [Finset.mem_filter]; exact ⟨fun h => h.2, fun h => ⟨Finset.mem_univ _, h⟩⟩
theorem mem_oSet {n lo hi : Nat} {p : S16777216.Idx} : p ∈ oSet n lo hi ↔ (p 0).val / 4096 % 32 = n ∧ lo ≤ (p 0).val / 131072 ∧ (p 0).val / 131072 < hi := by
  unfold oSet; rw [Finset.mem_filter]; exact ⟨fun h => h.2, fun h => ⟨Finset.mem_univ _, h⟩⟩

theorem ovFrom_zero (b : Nat) : ovFrom b 0 = slotSet b := by
  ext q; rw [mem_ovFrom, mem_slotSet]; omega

theorem ovFrom_succ (b r : Nat) : ovFrom b r = ovRow b r ∪ ovFrom b (r + 1) := by
  ext q; rw [Finset.mem_union, mem_ovFrom, mem_ovFrom, mem_ovRow]; omega
theorem ovFrom_disj (b r : Nat) : Disjoint (ovRow b r) (ovFrom b (r + 1)) := by
  refine Finset.disjoint_left.mpr fun q h h' => ?_
  rw [mem_ovRow] at h; rw [mem_ovFrom] at h'; omega

theorem oSet_succ {n t hi : Nat} (h : t < hi) : oSet n t hi = oRow n t ∪ oSet n (t + 1) hi := by
  ext p; rw [Finset.mem_union, mem_oSet, mem_oSet, mem_oRow]; omega
theorem oSet_disj (n t hi : Nat) : Disjoint (oRow n t) (oSet n (t + 1) hi) := by
  refine Finset.disjoint_left.mpr fun q h h' => ?_
  rw [mem_oRow] at h; rw [mem_oSet] at h'; omega
theorem oSet_join {n a b c : Nat} (h : a ≤ b) (h' : b ≤ c) : oSet n a c = oSet n a b ∪ oSet n b c := by
  ext p; rw [Finset.mem_union, mem_oSet, mem_oSet, mem_oSet]; omega
theorem oSet_join_disj (n a b c : Nat) : Disjoint (oSet n a b) (oSet n b c) := by
  refine Finset.disjoint_left.mpr fun q h h' => ?_
  rw [mem_oSet] at h h'; omega
theorem oSet_empty (n a : Nat) : oSet n a a = ∅ := by
  ext p; rw [mem_oSet]; constructor
  · intro h; omega
  · intro h; exact absurd h (Finset.notMem_empty _)

theorem ovRows_union (b : Nat) : (Finset.univ : Finset (Fin 4)).biUnion (fun r => ovRow b r.val) = slotSet b := by
  ext q
  rw [Finset.mem_biUnion, mem_slotSet]
  constructor
  · rintro ⟨r, -, h⟩; exact (mem_ovRow.mp h).1
  · intro h; exact ⟨⟨(q 0).val % 4, Nat.mod_lt _ (by decide)⟩, Finset.mem_univ _, mem_ovRow.mpr ⟨h, rfl⟩⟩
theorem ovRows_disj (b : Nat) (r r' : Fin 4) (h : r ≠ r') : Disjoint (ovRow b r.val) (ovRow b r'.val) := by
  refine Finset.disjoint_left.mpr fun q h1 h2 => h (Fin.ext ?_)
  exact (mem_ovRow.mp h1).2.symm.trans (mem_ovRow.mp h2).2
theorem oRows_union (n k : Nat) : (Finset.univ : Finset (Fin 4)).biUnion (fun r => oRow n (4 * k + r.val)) = oSet n (4 * k) (4 * k + 4) := by
  ext p
  rw [Finset.mem_biUnion, mem_oSet]
  constructor
  · rintro ⟨r, -, h⟩
    have := mem_oRow.mp h
    have hr := r.isLt
    omega
  · rintro ⟨h, h1, h2⟩
    refine ⟨⟨(p 0).val / 131072 - 4 * k, by omega⟩, Finset.mem_univ _, mem_oRow.mpr ⟨h, ?_⟩⟩
    show _ = 4 * k + ((p 0).val / 131072 - 4 * k)
    omega
theorem oRows_disj (n k : Nat) (r r' : Fin 4) (h : r ≠ r') : Disjoint (oRow n (4 * k + r.val)) (oRow n (4 * k + r'.val)) := by
  refine Finset.disjoint_left.mpr fun q h1 h2 => h (Fin.ext ?_)
  have := (mem_oRow.mp h1).2.symm.trans (mem_oRow.mp h2).2
  omega

variable (d : Dev nD) (i : grid0.Coords)

theorem srcRow_set (k : Fin k0_t1_loop.trips) (r : Fin 4) : (srcRow k r).view.set = ovRow (k.val % 2) r.val := by
  show (((View.whole cc0_scratch2).slice (Rect.unit (s := S8x4096) (k0_off27 k (BitVec.ofNat 32 r.val)) S1x4096.size (k0_off27_inb k r))).reshape S4096 _).set = _
  rw [View.set_reshape]
  refine (View.set_slice_whole cc0_scratch2 _).trans ?_
  ext q
  refine (Rect.mem_set_unit (inb := k0_off27_inb k r)).trans ?_
  rw [mem_ovRow, off27_eq k r]
  have hr := r.isLt
  constructor
  · intro h
    have h0 : k.val % 2 * 4 + r.val ≤ (q 0).val ∧ (q 0).val < k.val % 2 * 4 + r.val + 1 := h 0
    omega
  · intro h a
    fin_cases a
    · show k.val % 2 * 4 + r.val ≤ (q 0).val ∧ (q 0).val < k.val % 2 * 4 + r.val + 1
      omega
    · exact ⟨Nat.zero_le _, (Nat.zero_add 4096).symm ▸ (q 1).isLt⟩

theorem off28_tn (k : Fin k0_t1_loop.trips) (r : Fin 4) : k0_off28 i k (BitVec.ofNat 32 r.val) = ![131072 * (4 * k.val + r.val) + 4096 * tn i] := by
  rw [k0_off28_eq]
  unfold tn
  congr 1
  omega

theorem dstRow_set (k : Fin k0_t1_loop.trips) (r : Fin 4) : (dstRow i k r).view.set = oRow (tn i) (4 * k.val + r.val) := by
  refine (View.set_slice_whole main_v2_scv _).trans ?_
  ext p
  refine (Rect.mem_set_unit (inb := k0_off28_inb i k r)).trans ?_
  rw [mem_oRow, off28_tn i k r]
  have hn := tn_lt i
  constructor
  · intro h
    have h0 : 131072 * (4 * k.val + r.val) + 4096 * tn i ≤ (p 0).val ∧ (p 0).val < 131072 * (4 * k.val + r.val) + 4096 * tn i + 4096 := h 0
    omega
  · intro h a
    rw [Fin.eq_zero a]
    show 131072 * (4 * k.val + r.val) + 4096 * tn i ≤ (p 0).val ∧ (p 0).val < 131072 * (4 * k.val + r.val) + 4096 * tn i + 4096
    omega

theorem srcRow_read (f : FVec F S8x4096 .f32) (off : Fin 2 → Nat) (hoff : ∀ a, off a + S1x4096.size a ≤ S8x4096.size a) (j : Fin 4096) (q : Nat) (hq : q < 8)
    (he : off = ![q, 0]) :
    ov.view.readAt (Elt F) (Rect.unit (s := S8x4096) off S1x4096.size hoff).toLoadRect f (ix2 (n0 := 1) (n1 := 4096) 0 j) = f (ix2 (n0 := 8) (n1 := 4096) ⟨q, hq⟩ j) := by
  subst he
  show f _ = f _
  congr 1
  funext a
  apply Fin.ext
  fin_cases a
  · show q + 1 * 0 = q
    omega
  · show 0 + 1 * j.val = j.val
    omega

/-- What a row's copy leaves in the output. -/
theorem row_lands (A : FVec F S128x32x64 .f32) (w : F .f32) (k : Fin k0_t1_loop.trips) (r : Fin 4) (f : FVec F S8x4096 .f32)
    (hf : OvP (slab A (tn i)) w k.val 128 [] f) (g : FVec F S16777216 .f32) (p : S16777216.Idx) (hp : p ∈ oRow (tn i) (4 * k.val + r.val)) :
    (dstRow i k r).view.write (Elt F) g (ReadAs.same.apply ((srcRow k r).view.read (Elt F) f)) Finset.univ p = outF A w p := by
  show ((View.whole main_v2_scv).slice (Rect.unit (s := S16777216) (k0_off28 i k (BitVec.ofNat 32 r.val)) S4096.size (k0_off28_inb i k r))).write (Elt F) g
    ((srcRow k r).view.read (Elt F) f) Finset.univ p = _
  rw [View.write_whole_slice_unit]
  unfold updateSlice
  have hp' := mem_oRow.mp hp
  have hn := tn_lt i
  have hr := r.isLt
  split
  · next hin =>
    rw [Memref.read_squeeze_slice ov _ _ squeezes_S1x4096_S4096 squeezes_S1x4096_S4096.numel_eq]
    refine (shapeCast_apply (t := S4096) _ _ _ (ix2 (n0 := 1) (n1 := 4096) 0 ⟨(p 0).val % 4096, Nat.mod_lt _ (by decide)⟩) ?_).trans ?_
    · rw [Shape.rowMajor_val_two, Shape.rowMajor_val_one]
      show 0 * 4096 + (p 0).val % 4096 = (p 0).val - k0_off28 i k (BitVec.ofNat 32 r.val) 0
      rw [off28_tn i k r]
      show 0 * 4096 + (p 0).val % 4096 = (p 0).val - (131072 * (4 * k.val + r.val) + 4096 * tn i)
      omega
    · rw [srcRow_read f _ _ _ (k.val % 2 * 4 + r.val) (by omega) (off27_eq k r),
        hf _ (by show (k.val % 2 * 4 + r.val) / 4 = k.val % 2; omega)
          (Or.inl (by show (k.val % 2 * 4 + r.val) % 4 * 32 + (p 0).val % 4096 / 128 < 128; have := Nat.mod_lt (p 0).val (show 0 < 4096 by decide); omega))]
      unfold outF
      show oval (slab A (tn i)) w (4 * k.val + (k.val % 2 * 4 + r.val) % 4) ((p 0).val % 4096 / 128) ((p 0).val % 4096 % 128) = _
      rw [hp'.1, hp'.2, show (k.val % 2 * 4 + r.val) % 4 = r.val by omega, show (p 0).val % 4096 / 128 = (p 0).val / 128 % 32 by omega,
        show (p 0).val % 4096 % 128 = (p 0).val % 128 by omega]
  · next hout =>
    refine absurd (fun a => ?_) hout
    rw [Fin.eq_zero a]
    show k0_off28 i k (BitVec.ofNat 32 r.val) 0 ≤ (p 0).val ∧ (p 0).val < k0_off28 i k (BitVec.ofNat 32 r.val) 0 + 4096
    rw [off28_tn i k r]
    show 131072 * (4 * k.val + r.val) + 4096 * tn i ≤ (p 0).val ∧ (p 0).val < 131072 * (4 * k.val + r.val) + 4096 * tn i + 4096
    omega

/-! ## Slots -/

/-- What one row's copy credits. -/
def NB : Nat := sig.dmaCredit .scVector (Kind.scVector.table .hbm) main_v2_scv.idx S4096 .f32

theorem NB_pos : 0 < NB := sig.dmaCredit_pos _ _ _ _ _ (show 0 < S4096.numel by decide)

variable (A : FVec F S128x32x64 .f32) (w : F .f32)

/-- What row `r` of trip `k` delivers: the row of the output written, the slot's row back. -/
def Dl (k : Nat) (r : Fin 4) : sProp 𝕄 :=
  iprop((oL d ↦[(oRow (tn i) (4 * k + r.val) : Finset (Idx (oL d)))]{fullShare} (outF A w : Buf (Elt F) (oL d)))
    ∗ ∃ f : Buf (Elt F) (ovL d i), (ovL d i ↦[(ovRow (k % 2) r.val : Finset (Idx (ovL d i)))]{fullShare} f))

instance Dl_storable (k : Nat) (r : Fin 4) : Storable (upEmb : UEmb _ 𝕄) (Dl d i A w k r) := by
  unfold Dl; infer_instance

/-- A slot held, its semaphore at zero. -/
def Idle (k : Nat) : sProp 𝕄 :=
  iprop(semVal (th d i, SemLoc.dma (sq (kb k))) 0 ∗ ∃ f : Buf (Elt F) (ovL d i), (ovL d i ↦[(slotSet (k % 2) : Finset (Idx (ovL d i)))]{fullShare} f))

/-- Trip `k`'s rows on their way, none waited for. -/
def Busy (k : Nat) : sProp 𝕄 := Batch EC (th d i) (SemLoc.dma (sq (kb k))) (none : HIx 1) NB (Dl d i A w k) 4 0

theorem deliver (k : Nat) :
    bigSep Finset.univ (Dl d i A w k)
      ⊢ (iprop((oL d ↦[(oSet (tn i) (4 * k) (4 * k + 4) : Finset (Idx (oL d)))]{fullShare} (outF A w : Buf (Elt F) (oL d)))
          ∗ ∃ f : Buf (Elt F) (ovL d i), (ovL d i ↦[(slotSet (k % 2) : Finset (Idx (ovL d i)))]{fullShare} f)) : sProp 𝕄) := by
  unfold Dl
  rw [bigSep_sep']
  refine BIClass.sep_mono ?_ ?_
  · rw [← oRows_union, pointsTo_biUnion _ _ (fun r _ r' _ h => oRows_disj (tn i) k r r' h)]
  · refine (Idealize.SL.BI.bigSep_exists_pi Finset.univ _).trans ?_
    iintro ⟨%fs, H⟩
    ihave H' := (pointsTo_biUnion_join Finset.univ _ fs (fs 0) (fun r _ r' _ h => ovRows_disj (k % 2) r r' h)) $$ H
    icases H' with ⟨%g, -, H⟩
    rw [ovRows_union]
    iexists g
    iexact H

/-- What the thread owes, the waits so far recorded only at no round. -/
def Ow (O : CellTallies nD τ sig (HIx 1)) (W : Waits sig (HIx 1)) : sProp 𝕄 :=
  iprop(∃ W', ⌜∀ p ∈ W', p ∈ W ∨ p.2 = none⌝ ∗ owes (th d i) O W')

variable (O : CellTallies nD τ sig (HIx 1)) (W : Waits sig (HIx 1))

theorem wp_wt (k : Nat) (b : Fin 1 → Nat) (hb : ∀ a, b a + S1.size a ≤ S2.size a) (hk : b = ![k % 2]) (u : Nat) (hu : u + NB < NB * 4) :
    iprop(MayWaits (th d i) (none : HIx 1) O ∗ Batch EC (th d i) (SemLoc.dma (sq (kb k))) (none : HIx 1) NB (Dl d i A w k) 4 u ∗ Ow d i O W)
      ⊢ wp frame (wpE (defs₀ (F := F)) 𝒱₀ (th d i) none) Set.univ (wt (F := F) (i := i) b hb)
          fun _ => (iprop(MayWaits (th d i) (none : HIx 1) O ∗ Batch EC (th d i) (SemLoc.dma (sq (kb k))) (none : HIx 1) NB (Dl d i A w k) 4 (u + NB) ∗ Ow d i O W) : sProp 𝕄) := by
  unfold wt Ow
  rw [sq_eq hb hk]
  simp only [Prog.lift]
  iintro ⟨#Hmw, HB, %W', %hW', HO⟩
  iapply (wp_waitBatchO EC 𝒱₀ (th d i) none (none : HIx 1) (N := NB) rfl hu) $$ [HB HO]
  · isplitl [HB]; · iexact HB
    isplitl [HO]; · iexact HO
    iapply (Transfers.MayWaits.elim (SemLoc.dma (sq (kb k)))); iexact Hmw
  iintro ⟨HB, HO⟩
  rw [wp_ret]; imodintro
  isplitr; · iexact Hmw
  isplitl [HB]; · iexact HB
  iexists _; isplitr
  rotate_left
  · iexact HO
  · ipureintro; intro p hp
    rcases Finset.mem_insert.mp hp with rfl | hp
    · exact Or.inr rfl
    · exact hW' p hp

theorem wp_wtLast (k : Nat) (b : Fin 1 → Nat) (hb : ∀ a, b a + S1.size a ≤ S2.size a) (hk : b = ![k % 2]) (u : Nat) (hu : u + NB = NB * 4) :
    iprop(MayWaits (th d i) (none : HIx 1) O ∗ Batch EC (th d i) (SemLoc.dma (sq (kb k))) (none : HIx 1) NB (Dl d i A w k) 4 u ∗ Ow d i O W)
      ⊢ wp frame (wpE (defs₀ (F := F)) 𝒱₀ (th d i) none) Set.univ (wt (F := F) (i := i) b hb)
          fun _ => (iprop((oL d ↦[(oSet (tn i) (4 * k) (4 * k + 4) : Finset (Idx (oL d)))]{fullShare} (outF A w : Buf (Elt F) (oL d)))
            ∗ Idle d i k ∗ Ow d i O W) : sProp 𝕄) := by
  unfold wt Ow Idle
  rw [sq_eq hb hk]
  simp only [Prog.lift]
  iintro ⟨#Hmw, HB, %W', %hW', HO⟩
  iapply (wp_waitBatchLastO EC 𝒱₀ (th d i) none (none : HIx 1) (N := NB) rfl NB_pos hu) $$ [HB HO]
  · isplitl [HB]; · iexact HB
    isplitl [HO]; · iexact HO
    iapply (Transfers.MayWaits.elim (SemLoc.dma (sq (kb k)))); iexact Hmw
  iintro ⟨HD, HS, HO⟩
  ihave HD' := (deliver d i A w k) $$ HD
  icases HD' with ⟨Ho, Hv⟩
  rw [wp_ret]; imodintro
  isplitl [Ho]; · iexact Ho
  isplitl [HS Hv]
  · isplitl [HS]; · iexact HS
    iexact Hv
  iexists _; isplitr
  rotate_left
  · iexact HO
  · ipureintro; intro p hp
    rcases Finset.mem_insert.mp hp with rfl | hp
    · exact Or.inr rfl
    · exact hW' p hp

/-- The four waits bring a slot home. -/
theorem wp_wt4 (k : Nat) (b : Fin 1 → Nat) (hb : ∀ a, b a + S1.size a ≤ S2.size a) (hk : b = ![k % 2]) :
    iprop(MayWaits (th d i) (none : HIx 1) O ∗ Busy d i A w k ∗ Ow d i O W)
      ⊢ wp frame (wpE (defs₀ (F := F)) 𝒱₀ (th d i) none) Set.univ (wt4 (F := F) (i := i) b hb)
          fun _ => (iprop((oL d ↦[(oSet (tn i) (4 * k) (4 * k + 4) : Finset (Idx (oL d)))]{fullShare} (outF A w : Buf (Elt F) (oL d)))
            ∗ Idle d i k ∗ Ow d i O W) : sProp 𝕄) := by
  have hN := NB_pos
  unfold wt4 Busy
  iintro ⟨#Hmw, HB⟩
  rw [wp_bind]
  iapply ((wp_wt d i A w O W k b hb hk 0 (by omega)).trans (wp_mono frame _ _ fun _ => ?_)) $$ [HB]
  rotate_left
  · isplitr; · iexact Hmw
    iexact HB
  iintro ⟨#Hmw, HB⟩
  rw [wp_bind]
  iapply ((wp_wt d i A w O W k b hb hk (0 + NB) (by omega)).trans (wp_mono frame _ _ fun _ => ?_)) $$ [HB]
  rotate_left
  · isplitr; · iexact Hmw
    iexact HB
  iintro ⟨#Hmw, HB⟩
  rw [wp_bind]
  iapply ((wp_wt d i A w O W k b hb hk (0 + NB + NB) (by omega)).trans (wp_mono frame _ _ fun _ => ?_)) $$ [HB]
  rotate_left
  · isplitr; · iexact Hmw
    iexact HB
  iintro ⟨#Hmw, HB⟩
  iapply (wp_wtLast d i A w O W k b hb hk (0 + NB + NB + NB) (by omega)) $$ [HB]
  isplitr; · iexact Hmw
  iexact HB

/-! ## Sending a row -/

/-- Trip `k` with its first `n` rows on their way. -/
def Sent (k n : Nat) : sProp 𝕄 :=
  iprop(Batch EC (th d i) (SemLoc.dma (sq (kb k))) (none : HIx 1) NB (Dl d i A w k) n 0
    ∗ (∃ f : Buf (Elt F) (ovL d i), ⌜OvP (slab A (tn i)) w k 128 [] f⌝ ∗ (ovL d i ↦[(ovFrom (k % 2) n : Finset (Idx (ovL d i)))]{fullShare} f))
    ∗ ∃ g : Buf (Elt F) (oL d), (oL d ↦[(oSet (tn i) (4 * k + n) 128 : Finset (Idx (oL d)))]{fullShare} g))

theorem wp_issue (k : Fin k0_t1_loop.trips) (r : Fin 4) :
    Sent d i A w k.val r.val
      ⊢ wp frame (wpE (defs₀ (F := F)) 𝒱₀ (th d i) none) Set.univ (issue (F := F) (i := i) k r)
          fun _ => (Sent d i A w k.val (r.val + 1) : sProp 𝕄) := by
  have hk : k.val < 32 := klt k
  have hr := r.isLt
  unfold issue Sent
  rw [← sq_eq (k0_off29_inb k) (off29_eq k)]
  simp only [Prog.lift]
  iintro ⟨HB, ⟨%f, %hf, Hv⟩, %g, Ho⟩
  rw [ovFrom_succ (k.val % 2) r.val, oSet_succ (n := tn i) (t := 4 * k.val + r.val) (hi := 128) (by omega)]
  ihave Hv' := (pointsTo_union (ovFrom_disj (k.val % 2) r.val)).1 $$ Hv
  icases Hv' with ⟨Hr, Hv⟩
  ihave Ho' := (pointsTo_union (oSet_disj (tn i) (4 * k.val + r.val) 128)).1 $$ Ho
  icases Ho' with ⟨Hq, Ho⟩
  ihave Hr' := (Entails.of_eq (show (ovL d i ↦[(ovRow (k.val % 2) r.val : Finset (Idx (ovL d i)))]{fullShare} f : sProp 𝕄)
    = ((srcRow k r).view.loc (th d i) ↦[(srcRow k r).view.set]{fullShare} f) by rw [srcRow_set])) $$ Hr
  iapply (wp_dmaBatch EC 𝒱₀ (th d i) none (src := srcRow k r) (dst := dstRow i k r) (fs := f) (fd := g) (D := Dl d i A w k.val) (q := fullShare) (Sd := oRow (tn i) (4 * k.val + r.val))
    (none : HIx 1) NB rfl (dstRow_set i k r).le hr (Nat.zero_le _) ?hD) $$ [Hr' Hq HB]
  case hD =>
    unfold Dl
    rw [srcRow_set]
    refine BIClass.sep_mono (Entails.of_eq (pointsTo_congr fun p hp => row_lands i A w k r f hf g p hp)) ?_
    iintro H; iexists f; iexact H
  · isplitl [Hr']; · iexact Hr'
    isplitl [Hq]; · iexact Hq
    iexact HB
  iintro HB
  rw [wp_ret]; imodintro
  isplitl [HB]; · iexact HB
  isplitl [Hv]
  · iexists f; isplitr
    · ipureintro; exact hf
    · iexact Hv
  · iexists g; iexact Ho

end Cert.KernelIdeal.Lif
end
-- ==== Proof.Lif.Outer.lean ====
/-
  The outer loop: a trip scans four times, waits for its slot, fills it and sends its rows.

-/
module

public import proofs.«01_k».proof.Proof.Lif.Copies

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 eq_ix1 eq_ix2)

variable {F : FTy → Type}

local notation "𝕄" => MT nD τ sig (HIx 1) (Elt F) ℕ UU ℕ

variable [FloatOps F]

/-! ## Offsets -/

variable (d : Dev nD) (i : grid0.Coords)

/-- A step of a program, its own triple proved apart. -/
theorem wp_seq {α β : Type} {P : sProp 𝕄} {e : TP F i α} {Φ : α → sProp 𝕄} {k : α → TP F i β} {Q : β → sProp 𝕄}
    (h : P ⊢ wp frame (wpE (defs₀ (F := F)) 𝒱₀ (th d i) none) Set.univ e Φ) :
    P ⊢ iprop((∀ a, Φ a -∗ wp frame (wpE (defs₀ (F := F)) 𝒱₀ (th d i) none) Set.univ (k a) Q)
      -∗ wp frame (wpE (defs₀ (F := F)) 𝒱₀ (th d i) none) Set.univ (e >>= k) Q) := by
  rw [wp_bind]
  exact h.trans (wp_wand frame _ _)

theorem wp_last {α : Type} {P : sProp 𝕄} {e : TP F i α} {Φ Q : α → sProp 𝕄}
    (h : P ⊢ wp frame (wpE (defs₀ (F := F)) 𝒱₀ (th d i) none) Set.univ e Φ) :
    P ⊢ iprop((∀ a, Φ a -∗ Q a) -∗ wp frame (wpE (defs₀ (F := F)) 𝒱₀ (th d i) none) Set.univ e Q) :=
  h.trans (wp_wand frame _ _)

variable (A : FVec F S128x32x64 .f32) (w : F .f32) (O : CellTallies nD τ sig (HIx 1)) (W : Waits sig (HIx 1))

/-- The slot trip `k` will use. -/
def Fst (k : Nat) : sProp 𝕄 := if 2 ≤ k then Busy d i A w (k - 2) else Idle d i k
/-- The other slot. -/
def Snd (k : Nat) : sProp 𝕄 := if 1 ≤ k then Busy d i A w (k - 1) else Idle d i 1
/-- The times written before trip `k`. -/
def Done (k : Nat) : sProp 𝕄 :=
  (oL d ↦[(oSet (tn i) 0 (4 * (k - 2)) : Finset (Idx (oL d)))]{fullShare} (outF A w : Buf (Elt F) (oL d)))

theorem idle_two (k : Nat) (h : 2 ≤ k) : Idle d i (k - 2) = (Idle d i k : sProp 𝕄) := by
  obtain ⟨j, rfl⟩ := Nat.exists_eq_add_of_le' h
  unfold Idle
  rw [Nat.add_sub_cancel, kb_two, show (j + 2) % 2 = j % 2 by omega]

theorem done_step (k : Nat) (h : 2 ≤ k) :
    iprop(Done d i A w k ∗ (oL d ↦[(oSet (tn i) (4 * (k - 2)) (4 * (k - 2) + 4) : Finset (Idx (oL d)))]{fullShare} (outF A w : Buf (Elt F) (oL d))))
      ⊢ (Done d i A w (k + 1) : sProp 𝕄) := by
  unfold Done
  rw [show 4 * (k + 1 - 2) = 4 * (k - 2) + 4 by omega, oSet_join (n := tn i) (a := 0) (b := 4 * (k - 2)) (c := 4 * (k - 2) + 4) (by omega) (by omega)]
  exact (pointsTo_union (oSet_join_disj _ _ _ _)).2

/-- The waits of a trip: its slot is idle afterwards. -/
theorem wp_home (k : Fin k0_t1_loop.trips) :
    iprop(MayWaits (th d i) (none : HIx 1) O ∗ Fst d i A w k.val ∗ Done d i A w k.val ∗ Ow d i O W)
      ⊢ wp frame (wpE (defs₀ (F := F)) 𝒱₀ (th d i) none) Set.univ
          (if h : k0_cond1 k = 1#1 then (do wt4 (F := F) (i := i) (k0_off18 k) (k0_off18_inb k h)) else pure ⟨⟩)
          fun _ => (iprop(Idle d i k.val ∗ Done d i A w (k.val + 1) ∗ Ow d i O W) : sProp 𝕄) := by
  by_cases h2 : 2 ≤ k.val
  · rw [dif_pos ((cond1_iff k).mpr h2)]
    unfold Fst
    rw [if_pos h2]
    iintro ⟨#Hmw, HF, HD, HO⟩
    iapply (wp_last d i (wp_wt4 d i A w O W (k.val - 2) (k0_off18 k) _ (by rw [off18_eq k, show (k.val - 2) % 2 = k.val % 2 by omega]))) $$ [HF HO]
    · isplitr; · iexact Hmw
      isplitl [HF]; · iexact HF
      iexact HO
    iintro %u ⟨Hn, HI, HO⟩
    ihave HI' := (Entails.of_eq (idle_two d i k.val h2)) $$ HI
    isplitl [HI']; · iexact HI'
    isplitl [HD Hn]
    · iapply (done_step d i A w k.val h2)
      isplitl [HD]; · iexact HD
      iexact Hn
    iexact HO
  · rw [dif_neg (fun h => h2 ((cond1_iff k).mp h))]
    unfold Fst
    rw [if_neg h2, Prog.pure_eq_ret, wp_ret]
    iintro ⟨-, HF, HD, HO⟩
    imodintro
    isplitl [HF]; · iexact HF
    isplitl [HD]
    · unfold Done
      rw [show 4 * (k.val + 1 - 2) = 4 * (k.val - 2) by omega]
      iexact HD
    iexact HO

theorem rows_eq (k : Fin k0_t1_loop.trips) (c : C4 F) :
    rows (i := i) k c = ((if h : k0_cond1 k = 1#1 then (do wt4 (F := F) (i := i) (k0_off18 k) (k0_off18_inb k h)) else pure ⟨⟩) >>= fun _ =>
      Scf.Loop.for k0_t2_loop k0_t2_ok ⟨⟩ (fun j _ => pairRow (F := F) (i := i) k j) >>= fun _ => pure ⟨c.2.1, c.2.2.1, c.2.2.2⟩) := by
  unfold rows
  by_cases h : k0_cond1 k = 1#1
  · rw [dif_pos h, dif_pos h]
  · rw [dif_neg h, dif_neg h]; rfl

/-- Trip `k`'s state. -/
def Inv (k : Nat) (c : C4 F) : sProp 𝕄 :=
  iprop(⌜c = c4 (slab A (tn i)) (4 * k)⌝ ∗ MayWaits (th d i) (none : HIx 1) O ∗ Ow d i O W ∗ Scn d i (slab A (tn i)) w (4 * k) 0
    ∗ Fst d i A w k ∗ Snd d i A w k ∗ Done d i A w k ∗ ∃ g : Buf (Elt F) (oL d), (oL d ↦[(oSet (tn i) (4 * k) 128 : Finset (Idx (oL d)))]{fullShare} g))

theorem sent_four (k : Nat) :
    Sent d i A w k 4 ⊢ (iprop(Busy d i A w k ∗ ∃ g : Buf (Elt F) (oL d), (oL d ↦[(oSet (tn i) (4 * (k + 1)) 128 : Finset (Idx (oL d)))]{fullShare} g)) : sProp 𝕄) := by
  unfold Sent Busy
  iintro ⟨HB, -, Ho⟩
  isplitl [HB]; · iexact HB
  iexact Ho

theorem snd_fst (k : Nat) : Snd d i A w k ⊢ (Fst d i A w (k + 1) : sProp 𝕄) := by
  unfold Fst Snd
  by_cases h1 : 1 ≤ k
  · rw [if_pos h1, if_pos (by omega), show k + 1 - 2 = k - 1 by omega]
  · rw [if_neg h1, if_neg (by omega), show k = 0 by omega]

theorem snd_succ (k : Nat) : (Snd d i A w (k + 1) : sProp 𝕄) = Busy d i A w k := by
  unfold Snd
  rw [if_pos (by omega), Nat.add_sub_cancel]

theorem wp_issue' (k : Fin k0_t1_loop.trips) (n : Nat) (h : n < 4) :
    Sent d i A w k.val n
      ⊢ wp frame (wpE (defs₀ (F := F)) 𝒱₀ (th d i) none) Set.univ (issue (F := F) (i := i) k ⟨n, h⟩)
          fun _ => (Sent d i A w k.val (n + 1) : sProp 𝕄) := wp_issue d i A w k ⟨n, h⟩

theorem wp_trip (k : Fin k0_t1_loop.trips) (c : C4 F) :
    Inv d i A w O W k.val c
      ⊢ wp frame (wpE (defs₀ (F := F)) 𝒱₀ (th d i) none) Set.univ (trip (F := F) (i := i) (fun _ => w) k c)
          fun c' => (Inv d i A w O W (k.val + 1) c' : sProp 𝕄) := by
  have hk : k.val < 32 := klt k
  unfold Inv trip
  iintro ⟨%hc, #Hmw, HO, HS, HF, HSn, HD, %g, Ho⟩
  subst hc
  iapply (wp_seq d i (wp_scan4 d i (slab A (tn i)) w k)) $$ HS
  iintro %c' ⟨%hc', HX, HH⟩
  subst hc'
  simp only [rows_eq, bind_assoc]
  iapply (wp_seq d i (wp_home d i A w O W k)) $$ [HF HD HO]
  · isplitr; · iexact Hmw
    isplitl [HF]; · iexact HF
    isplitl [HD]; · iexact HD
    iexact HO
  iintro %u ⟨HI, HD, HO⟩
  ihave HI' := (show Idle d i k.val ⊢ (iprop(semVal (th d i, SemLoc.dma (sq (kb k.val))) 0
    ∗ ∃ f : Buf (Elt F) (ovL d i), (ovL d i ↦[(slotSet (k.val % 2) : Finset (Idx (ovL d i)))]{fullShare} f)) : sProp 𝕄) from .rfl) $$ HI
  icases HI' with ⟨Hsem, Hv⟩
  iapply (wp_seq d i (wp_inner d i (slab A (tn i)) w k)) $$ [HH Hv]
  · isplitl [HH]; · iexact HH
    iexact Hv
  iintro %u2 ⟨HH, Hv⟩
  imod (batch_alloc' EC (th d i) (none : HIx 1) NB (Dl d i A w k.val)) $$ Hsem with HB
  ihave HT := (show iprop(Batch EC (th d i) (SemLoc.dma (sq (kb k.val))) (none : HIx 1) NB (Dl d i A w k.val) 0 0 ∗ Ovs d i (slab A (tn i)) w k.val 128 []
      ∗ ∃ g : Buf (Elt F) (oL d), (oL d ↦[(oSet (tn i) (4 * k.val + 0) 128 : Finset (Idx (oL d)))]{fullShare} g)) ⊢ (Sent d i A w k.val 0 : sProp 𝕄) from by
    unfold Sent; rw [ovFrom_zero]) $$ [HB Hv Ho]
  · isplitl [HB]; · iexact HB
    isplitl [Hv]; · iexact Hv
    iexists g; iexact Ho
  simp only [Prog.pure_eq_ret, pure_bind]
  iapply (wp_seq d i (wp_issue' d i A w k 0 (by decide))) $$ HT
  iintro %u3 HT
  iapply (wp_seq d i (wp_issue' d i A w k 1 (by decide))) $$ HT
  iintro %u4 HT
  iapply (wp_seq d i (wp_issue' d i A w k 2 (by decide))) $$ HT
  iintro %u5 HT
  iapply (wp_seq d i (wp_issue' d i A w k 3 (by decide))) $$ HT
  iintro %u6 HT
  ihave HT' := (sent_four d i A w k.val) $$ HT
  icases HT' with ⟨HB, Ho⟩
  rw [wp_ret]; imodintro
  isplitr; · ipureintro; rfl
  isplitr; · iexact Hmw
  isplitl [HO]; · iexact HO
  isplitl [HX HH]
  · isplitl [HX]; · iexact HX
    iexact HH
  isplitl [HSn]
  · iapply (snd_fst d i A w k.val)
    iexact HSn
  isplitl [HB]
  · iapply (Entails.of_eq (snd_succ d i A w k.val).symm)
    iexact HB
  isplitl [HD]; · iexact HD
  iexact Ho

/-! ## The task after its operands are in -/

theorem wp_wt4' {β : Type} (k : Nat) (b : Fin 1 → Nat) (hb : ∀ a, b a + S1.size a ≤ S2.size a) (hk : b = ![k % 2]) (p : TP F i β) (Q : β → sProp 𝕄) :
    iprop(MayWaits (th d i) (none : HIx 1) O ∗ Busy d i A w k ∗ Ow d i O W)
      ⊢ iprop((iprop((oL d ↦[(oSet (tn i) (4 * k) (4 * k + 4) : Finset (Idx (oL d)))]{fullShare} (outF A w : Buf (Elt F) (oL d))) ∗ Idle d i k ∗ Ow d i O W)
          -∗ wp frame (wpE (defs₀ (F := F)) 𝒱₀ (th d i) none) Set.univ p Q)
        -∗ wp frame (wpE (defs₀ (F := F)) 𝒱₀ (th d i) none) Set.univ
          (wt (F := F) (i := i) b hb >>= fun _ => wt (F := F) (i := i) b hb >>= fun _ => wt (F := F) (i := i) b hb >>= fun _ => wt (F := F) (i := i) b hb >>= fun _ => p) Q) := by
  have e : (wt (F := F) (i := i) b hb >>= fun _ => wt (F := F) (i := i) b hb >>= fun _ => wt (F := F) (i := i) b hb >>= fun _ => wt (F := F) (i := i) b hb >>= fun _ => p)
      = (wt4 (F := F) (i := i) b hb >>= fun _ => p) := by
    unfold wt4; simp only [bind_assoc]
  rw [e]
  iintro H Hk
  iapply (wp_seq d i (wp_wt4 d i A w O W k b hb hk)) $$ H
  iintro %u H
  iapply Hk $$ H

/-- What the task needs: the slab in, its scratch, its two semaphores at zero and its part of the output. -/
def Pre0 : sProp 𝕄 :=
  iprop(MayWaits (th d i) (none : HIx 1) O ∗ Ow d i O W ∗ (xvL d i ↦{fullShare} (slab A (tn i) : Buf (Elt F) (xvL d i)))
    ∗ (∃ f : Buf (Elt F) (bvL d i), (bvL d i ↦{fullShare} f)) ∗ Idle d i 0 ∗ Idle d i 1
    ∗ ∃ g : Buf (Elt F) (oL d), (oL d ↦[(oSet (tn i) 0 128 : Finset (Idx (oL d)))]{fullShare} g))

/-- What it leaves: its part of the output written. -/
def Post0 : sProp 𝕄 :=
  iprop(Ow d i O W ∗ (∃ f : Buf (Elt F) (xvL d i), (xvL d i ↦{fullShare} f))
    ∗ (∃ f : Buf (Elt F) (bvL d i), (bvL d i ↦{fullShare} f)) ∗ Idle d i 0 ∗ Idle d i 1
    ∗ (oL d ↦[(oSet (tn i) 0 128 : Finset (Idx (oL d)))]{fullShare} (outF A w : Buf (Elt F) (oL d))))

theorem inv_zero (f : Buf (Elt F) (bvL d i)) (hf : Zer (F := F) (509 + 3) f) :
    iprop(MayWaits (th d i) (none : HIx 1) O ∗ Ow d i O W ∗ (xvL d i ↦{fullShare} (slab A (tn i) : Buf (Elt F) (xvL d i)))
      ∗ (bvL d i ↦{fullShare} f) ∗ Idle d i 0 ∗ Idle d i 1
      ∗ ∃ g : Buf (Elt F) (oL d), (oL d ↦[(oSet (tn i) 0 128 : Finset (Idx (oL d)))]{fullShare} g))
      ⊢ (Inv d i A w O W 0 (k0_pay69, k0_pay69, k0_pay69, k0_pay69) : sProp 𝕄) := by
  unfold Inv Fst Snd Done
  rw [if_neg (by decide), if_neg (by decide), oSet_empty, pointsTo_empty]
  iintro ⟨#Hmw, HO, HX, HB, H0, H1, Ho⟩
  isplitr; · ipureintro; rfl
  isplitr; · iexact Hmw
  isplitl [HO]; · iexact HO
  isplitl [HX HB]
  · isplitl [HX]; · iexact HX
    iexists f; isplitr
    · ipureintro; exact good_of_zer hf
    · iexact HB
  isplitl [H0]; · iexact H0
  isplitl [H1]; · iexact H1
  isplitr; · iempintro
  iexact Ho

theorem inv_last (c : C4 F) :
    Inv d i A w O W 32 c ⊢ (iprop(MayWaits (th d i) (none : HIx 1) O ∗ Ow d i O W ∗ (∃ f : Buf (Elt F) (xvL d i), (xvL d i ↦{fullShare} f))
      ∗ (∃ f : Buf (Elt F) (bvL d i), (bvL d i ↦{fullShare} f)) ∗ Busy d i A w 30 ∗ Busy d i A w 31
      ∗ (oL d ↦[(oSet (tn i) 0 120 : Finset (Idx (oL d)))]{fullShare} (outF A w : Buf (Elt F) (oL d)))) : sProp 𝕄) := by
  unfold Inv Fst Snd Done
  rw [if_pos (by decide), if_pos (by decide)]
  iintro ⟨-, #Hmw, HO, ⟨HX, %f, -, HB⟩, H0, H1, HD, -⟩
  isplitr; · iexact Hmw
  isplitl [HO]; · iexact HO
  isplitl [HX]; · iexists _; iexact HX
  isplitl [HB]; · iexists f; iexact HB
  isplitl [H0]; · iexact H0
  isplitl [H1]; · iexact H1
  iexact HD

theorem trips_eq : k0_t1_loop.trips = 32 := by decide +kernel

theorem out_join :
    iprop((oL d ↦[(oSet (tn i) 0 120 : Finset (Idx (oL d)))]{fullShare} (outF A w : Buf (Elt F) (oL d)))
      ∗ (oL d ↦[(oSet (tn i) (4 * 30) (4 * 30 + 4) : Finset (Idx (oL d)))]{fullShare} (outF A w : Buf (Elt F) (oL d)))
      ∗ (oL d ↦[(oSet (tn i) (4 * 31) (4 * 31 + 4) : Finset (Idx (oL d)))]{fullShare} (outF A w : Buf (Elt F) (oL d))))
      ⊢ ((oL d ↦[(oSet (tn i) 0 128 : Finset (Idx (oL d)))]{fullShare} (outF A w : Buf (Elt F) (oL d))) : sProp 𝕄) := by
  rw [oSet_join (n := tn i) (a := 0) (b := 120) (c := 128) (by decide) (by decide), oSet_join (n := tn i) (a := 120) (b := 124) (c := 128) (by decide) (by decide)]
  iintro ⟨H, H'⟩
  iapply (pointsTo_union (Finset.disjoint_union_right.mpr ⟨oSet_join_disj _ _ _ _, Finset.disjoint_left.mpr fun q h h' => by
    rw [mem_oSet] at h h'; omega⟩)).2
  isplitl [H]; · iexact H
  iapply (pointsTo_union (oSet_join_disj (tn i) 120 124 128)).2
  iexact H'

theorem wp_work :
    Pre0 d i A O W
      ⊢ wp frame (wpE (defs₀ (F := F)) 𝒱₀ (th d i) none) Set.univ (work (F := F) (i := i) (fun _ => w)) fun _ => (Post0 d i A w O W : sProp 𝕄) := by
  unfold Pre0 work
  iintro ⟨#Hmw, HO, HX, ⟨%f0, HB⟩, H0, H1, Ho⟩
  iapply (wp_seq d i (wp_zeros d i 9 0)) $$ [HB]
  · iexists f0; isplitr
    · ipureintro; intro p k hk; exact absurd hk (Nat.not_lt_zero _)
    · iexact HB
  iintro %u1 HB
  iapply (wp_seq d i (wp_zall d i 25 9)) $$ HB
  iintro %u2 HB
  iapply (wp_seq d i (wp_zeros d i 3 509)) $$ HB
  iintro %u3 ⟨%f, %hf, HB⟩
  ihave HI := (inv_zero d i A w O W f hf) $$ [HO HX HB H0 H1 Ho]
  · isplitr; · iexact Hmw
    isplitl [HO]; · iexact HO
    isplitl [HX]; · iexact HX
    isplitl [HB]; · iexact HB
    isplitl [H0]; · iexact H0
    isplitl [H1]; · iexact H1
    iexact Ho
  rw [wp_bind]
  iapply (Scf.wp_for frame _ Set.univ _ _ _ _ _ _ (fun (n : Nat) (c : C4 F) => (Inv d i A w O W n c : sProp 𝕄)) (fun k c => wp_trip d i A w O W k c)) $$ [HI]
  isplitl [HI]; · iexact HI
  iintro %c HI
  ihave HI' := ((Entails.of_eq (by rw [show Scf.trips _ _ _ = 32 from trips_eq])).trans (inv_last d i A w O W c)) $$ HI
  icases HI' with ⟨#Hmw2, HO, HX, HB, H0, H1, HD⟩
  iapply (wp_wt4' d i A w O W 30 ![0] inb_S2_S1_0 rfl) $$ [H0 HO]
  · isplitr; · iexact Hmw
    isplitl [H0]; · iexact H0
    iexact HO
  iintro ⟨Ho0, H0, HO⟩
  iapply (wp_last d i (wp_wt4 d i A w O W 31 ![1] inb_S2_S1_1 rfl)) $$ [H1 HO]
  · isplitr; · iexact Hmw
    isplitl [H1]; · iexact H1
    iexact HO
  iintro %u4 ⟨Ho1, H1, HO⟩
  unfold Post0
  isplitl [HO]; · iexact HO
  isplitl [HX]; · iexact HX
  isplitl [HB]; · iexact HB
  isplitl [H0]; · iexact H0
  isplitl [H1]; · iexact H1
  iapply (out_join d i A w)
  isplitl [HD]; · iexact HD
  isplitl [Ho0]; · iexact Ho0
  iexact Ho1

end Cert.KernelIdeal.Lif
end
-- ==== Proof.Lif.Tile.lean ====
/-
  A tile: the copies in, the work, and its scratch and semaphores handed back.

-/
module

public import proofs.«01_k».proof.Proof.Lif.Outer

@[expose] public section

noncomputable section

namespace Cert.KernelIdeal.Lif

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 eq_ix1 eq_ix2)

variable {F : FTy → Type}

local notation "𝕄" => MT nD τ sig (HIx 1) (Elt F) ℕ UU ℕ

variable [FloatOps F]

/-! ## Offsets -/

open Idealize.ShloMosaic.SparseCore.Cfg (ownBufs ownSems0 ownCells ownRefs mem_ownCells mem_ownRefs)

variable (d : Dev nD) (i : grid0.Coords)

/-! ## The copies in -/

/-- Batch row `n` of the reshaped input. -/
def xSet (n : Nat) : Finset S128x32x64.Idx := Finset.univ.filter fun j => (j 1).val = n

theorem mem_xSet {n : Nat} {j : S128x32x64.Idx} : j ∈ xSet n ↔ (j 1).val = n := by
  unfold xSet; rw [Finset.mem_filter]; exact ⟨fun h => h.2, fun h => ⟨Finset.mem_univ _, h⟩⟩

abbrev xSrc (i : grid0.Coords) : Memref sig .scVector .hbm S128x64 .f32 :=
  (xh.slice (Rect.unit (s := S128x32x64) (k0_off1 i) S128x1x64.size (k0_off1_inb i)) (fun _ => rfl)).squeeze S128x64 squeezes_S128x1x64_S128x64

theorem xSrc_set : (xSrc i).view.set = xSet (tn i) := by
  show (((View.whole main_v0_scv).slice (Rect.unit (s := S128x32x64) (k0_off1 i) S128x1x64.size (k0_off1_inb i))).reshape S128x64 _).set = _
  rw [View.set_reshape]
  refine (View.set_slice_whole main_v0_scv _).trans ?_
  ext j
  refine (Rect.mem_set_unit (inb := k0_off1_inb i)).trans ?_
  rw [mem_xSet, k0_off1_eq i]
  constructor
  · intro h
    have h1 : tn i ≤ (j 1).val ∧ (j 1).val < tn i + 1 := h 1
    omega
  · intro h a
    fin_cases a
    · exact ⟨Nat.zero_le _, (Nat.zero_add 128).symm ▸ (j 0).isLt⟩
    · show tn i ≤ (j 1).val ∧ (j 1).val < tn i + 1
      omega
    · exact ⟨Nat.zero_le _, (Nat.zero_add 64).symm ▸ (j 2).isLt⟩

theorem xSrc_read (A : FVec F S128x32x64 .f32) : (xSrc i).view.read (Elt F) A = slab A (tn i) := by
  funext j
  obtain ⟨j0, j1, rfl⟩ : ∃ (j0 : Fin 128) (j1 : Fin 64), j = ix2 j0 j1 := ⟨j 0, j 1, eq_ix2 (n0 := 128) (n1 := 64) j⟩
  rw [Memref.read_squeeze_slice xh _ _ squeezes_S128x1x64_S128x64 squeezes_S128x1x64_S128x64.numel_eq]
  refine (shapeCast_apply (t := S128x64) _ _ _ (ix3 (n0 := 128) (n1 := 1) (n2 := 64) j0 0 j1) ?_).trans ?_
  · rw [Shape.rowMajor_val_three, Shape.rowMajor_val_two]
    show (j0.val * 1 + 0) * 64 + j1.val = j0.val * 64 + j1.val
    omega
  · show A _ = A _
    congr 1
    have hn := tn_lt i
    have he := k0_off1_eq i
    funext a
    apply Fin.ext
    fin_cases a
    · show k0_off1 i 0 + 1 * j0.val = j0.val
      rw [he]; show 0 + 1 * j0.val = j0.val; omega
    · show k0_off1 i 1 + 1 * 0 = tn i % 32
      rw [he]; show tn i + 1 * 0 = tn i % 32; omega
    · show k0_off1 i 2 + 1 * j1.val = j1.val
      rw [he]; show 0 + 1 * j1.val = j1.val; omega

variable (A : FVec F S128x32x64 .f32) (w : F .f32) (O : CellTallies nD τ sig (HIx 1)) (W : Waits sig (HIx 1)) (q : PosShare TreeShare)

/-- The operands a tile reads: its batch row, and a share of the weights. -/
def Opd : sProp 𝕄 :=
  iprop((xL d ↦[(xSet (tn i) : Finset (Idx (xL d)))]{fullShare} (A : Buf (Elt F) (xL d))) ∗ (wL d ↦{q} ((fun _ => w : FVec F S16 .f32) : Buf (Elt F) (wL d))))

theorem ow_insert {sm : SemLoc sig} {W' : Waits sig (HIx 1)} (hW' : ∀ p ∈ W', p ∈ W ∨ p.2 = none) :
    owes (th d i) O (insert (sm, none) W') ⊢ (Ow d i O W : sProp 𝕄) := by
  unfold Ow
  iintro H
  iexists _; isplitr
  rotate_left
  · iexact H
  · ipureintro; intro p hp
    rcases Finset.mem_insert.mp hp with rfl | hp
    · exact Or.inr rfl
    · exact hW' p hp

theorem wp_copyIn :
    iprop(MayWaits (th d i) (none : HIx 1) O ∗ Ow d i O W ∗ Opd d i A w q ∗ (∃ f : Buf (Elt F) (xvL d i), (xvL d i ↦{fullShare} f))
      ∗ (∃ f : Buf (Elt F) (wvL d i), (wvL d i ↦{fullShare} f)) ∗ semVal (th d i, SemLoc.dma cc0_scoped0.sem) 0 ∗ semVal (th d i, SemLoc.dma cc0_scoped1.sem) 0)
      ⊢ wp frame (wpE (defs₀ (F := F)) 𝒱₀ (th d i) none) Set.univ (copyIn (F := F) (i := i))
          fun _ => (iprop(Ow d i O W ∗ Opd d i A w q ∗ (xvL d i ↦{fullShare} (slab A (tn i) : Buf (Elt F) (xvL d i)))
            ∗ (wvL d i ↦{fullShare} ((fun _ => w : FVec F S16 .f32) : Buf (Elt F) (wvL d i)))
            ∗ semVal (th d i, SemLoc.dma cc0_scoped0.sem) 0 ∗ semVal (th d i, SemLoc.dma cc0_scoped1.sem) 0) : sProp 𝕄) := by
  unfold copyIn Opd
  simp only [Prog.lift, Prog.bind_op, Prog.bind_ret, Prog.pure_eq_ret]
  iintro ⟨#Hmw, HO, ⟨Hx, Hw⟩, ⟨%fx, Hxv⟩, ⟨%fw, Hwv⟩, HsA, HsB⟩
  ihave HO' := (show Ow d i O W ⊢ (iprop(∃ W', ⌜∀ p ∈ W', p ∈ W ∨ p.2 = none⌝ ∗ owes (th d i) O W') : sProp 𝕄) from .rfl) $$ HO
  icases HO' with ⟨%W', %hW', HO⟩
  ihave Hx' := (Entails.of_eq (show (xL d ↦[(xSet (tn i) : Finset (Idx (xL d)))]{fullShare} (A : Buf (Elt F) (xL d)) : sProp 𝕄)
    = ((xSrc i).view.loc (th d i) ↦[(xSrc i).view.set]{fullShare} A) by rw [xSrc_set])) $$ Hx
  iapply (wp_dmaLocal EC 𝒱₀ (th d i) none (src := xSrc i) (dst := xv) (fs := A) (fd := fx) (q := fullShare) (Sd := Finset.univ)
    (none : HIx 1) _ rfl (View.amount_pos _ _ (show 0 < S128x64.numel by decide)) (Finset.subset_univ _)) $$ [Hx' Hxv HsA]
  · isplitl [Hx']; · iexact Hx'
    isplitl [Hxv]; · iexact Hxv
    iexact HsA
  iintro HF
  iapply (wp_waitLocalO EC 𝒱₀ (th d i) none (none : HIx 1) rfl) $$ [HF HO]
  · isplitl [HF]; · iexact HF
    isplitl [HO]; · iexact HO
    iapply (Transfers.MayWaits.elim (SemLoc.dma cc0_scoped0.sem)); iexact Hmw
  iintro ⟨⟨Hxv, Hx⟩, HsA, HO⟩
  ihave Hw' := (Entails.of_eq (show (wL d ↦{q} ((fun _ => w : FVec F S16 .f32) : Buf (Elt F) (wL d)) : sProp 𝕄)
    = ((wh.view.loc (th d i)) ↦[wh.view.set]{q} (fun _ => w)) by rw [show wh.view.set = Finset.univ from View.set_whole _])) $$ Hw
  iapply (wp_dmaLocal EC 𝒱₀ (th d i) none (src := wh) (dst := wv) (fs := (fun _ => w)) (fd := fw) (q := q) (Sd := Finset.univ)
    (none : HIx 1) _ rfl (View.amount_pos _ _ (show 0 < S16.numel by decide)) (Finset.subset_univ _)) $$ [Hw' Hwv HsB]
  · isplitl [Hw']; · iexact Hw'
    isplitl [Hwv]; · iexact Hwv
    iexact HsB
  iintro HF
  iapply (wp_waitLocalO EC 𝒱₀ (th d i) none (none : HIx 1) rfl) $$ [HF HO]
  · isplitl [HF]; · iexact HF
    isplitl [HO]; · iexact HO
    iapply (Transfers.MayWaits.elim (SemLoc.dma cc0_scoped1.sem)); iexact Hmw
  iintro ⟨⟨Hwv, Hw⟩, HsB, HO⟩
  rw [wp_ret]; imodintro
  isplitl [HO]
  · iapply (ow_insert d i O W (W' := insert (SemLoc.dma cc0_scoped0.sem, none) W') (fun p hp => by
      rcases Finset.mem_insert.mp hp with rfl | hp
      · exact Or.inr rfl
      · exact hW' p hp))
    iexact HO
  isplitl [Hx Hw]
  · isplitl [Hx]
    · iapply (Entails.of_eq (show ((xSrc i).view.loc (th d i) ↦[(xSrc i).view.set]{fullShare} A : sProp 𝕄)
        = (xL d ↦[(xSet (tn i) : Finset (Idx (xL d)))]{fullShare} (A : Buf (Elt F) (xL d))) by rw [xSrc_set])); iexact Hx
    · iapply (Entails.of_eq (show ((wh.view.loc (th d i)) ↦[wh.view.set]{q} (fun _ => w) : sProp 𝕄)
        = (wL d ↦{q} ((fun _ => w : FVec F S16 .f32) : Buf (Elt F) (wL d))) by rw [show wh.view.set = Finset.univ from View.set_whole _])); iexact Hw
  isplitl [Hxv]
  · iapply (Entails.of_eq (show (xvL d i ↦{fullShare} (xv.view.write (Elt F) fx (ReadAs.same.apply ((xSrc i).view.read (Elt F) A)) Finset.univ) : sProp 𝕄)
      = (xvL d i ↦{fullShare} (slab A (tn i) : Buf (Elt F) (xvL d i))) by
        rw [show ReadAs.same.apply ((xSrc i).view.read (Elt F) A) = slab A (tn i) from xSrc_read i A]
        exact congrArg (fun f => (xvL d i ↦{fullShare} f : sProp 𝕄)) (View.write_whole_univ _ _ _))); iexact Hxv
  isplitl [Hwv]
  · iapply (Entails.of_eq (show (wvL d i ↦{fullShare} (wv.view.write (Elt F) fw (ReadAs.same.apply (wh.view.read (Elt F) (fun _ => w))) Finset.univ) : sProp 𝕄)
      = (wvL d i ↦{fullShare} ((fun _ => w : FVec F S16 .f32) : Buf (Elt F) (wvL d i))) from
        congrArg (fun f => (wvL d i ↦{fullShare} f : sProp 𝕄)) (View.write_whole_univ _ _ _))); iexact Hwv
  isplitl [HsA]; · iexact HsA
  iexact HsB

/-! ## The tile's own scratch and semaphores -/

theorem idle_eq (b : Fin 2) :
    Idle d i b.val = (iprop(semVal (th d i, SemLoc.dma (sq b)) 0 ∗ ∃ f : Buf (Elt F) (ovL d i), (ovL d i ↦[(slotSet b.val : Finset (Idx (ovL d i)))]{fullShare} f)) : sProp 𝕄) := by
  unfold Idle
  rw [show kb b.val = b from Fin.ext (Nat.mod_eq_of_lt b.isLt), Nat.mod_eq_of_lt b.isLt]

theorem slots_univ : slotSet 0 ∪ slotSet 1 = (Finset.univ : Finset S8x4096.Idx) := by
  ext q
  rw [Finset.mem_union, mem_slotSet, mem_slotSet]
  have : (q 0).val < 8 := (q 0).isLt
  exact ⟨fun _ => Finset.mem_univ _, fun _ => by omega⟩
theorem slots_disj : Disjoint (slotSet 0) (slotSet 1) := by
  refine Finset.disjoint_left.mpr fun q h h' => ?_
  rw [mem_slotSet] at h h'; omega

theorem idle_in :
    iprop((∃ f : Buf (Elt F) (ovL d i), (ovL d i ↦{fullShare} f)) ∗ semVal (th d i, SemLoc.dma (sq 0)) 0 ∗ semVal (th d i, SemLoc.dma (sq 1)) 0)
      ⊢ (iprop(Idle d i 0 ∗ Idle d i 1) : sProp 𝕄) := by
  rw [show Idle d i 0 = _ from idle_eq (F := F) d i 0, show Idle d i 1 = _ from idle_eq (F := F) d i 1]
  iintro ⟨⟨%f, H⟩, H0, H1⟩
  ihave H' := ((Entails.of_eq (show (ovL d i ↦{fullShare} f : sProp 𝕄) = (ovL d i ↦[(slotSet 0 ∪ slotSet 1 : Finset (Idx (ovL d i)))]{fullShare} f) from
    congrArg (fun I => (ovL d i ↦[I]{fullShare} f : sProp 𝕄)) slots_univ.symm)).trans (pointsTo_union slots_disj).1) $$ H
  icases H' with ⟨Ha, Hb⟩
  isplitl [H0 Ha]
  · isplitl [H0]; · iexact H0
    iexists f; iexact Ha
  · isplitl [H1]; · iexact H1
    iexists f; iexact Hb

theorem idle_out :
    iprop(Idle d i 0 ∗ Idle d i 1) ⊢ (iprop((∃ f : Buf (Elt F) (ovL d i), (ovL d i ↦{fullShare} f)) ∗ semVal (th d i, SemLoc.dma (sq 0)) 0
      ∗ semVal (th d i, SemLoc.dma (sq 1)) 0) : sProp 𝕄) := by
  rw [show Idle d i 0 = _ from idle_eq (F := F) d i 0, show Idle d i 1 = _ from idle_eq (F := F) d i 1]
  iintro ⟨⟨H0, %f, Ha⟩, H1, %g, Hb⟩
  isplitl [Ha Hb]
  · iexists _
    iapply ((pointsTo_join slots_disj).trans (Entails.of_eq (congrArg (fun I => (ovL d i ↦[I]{fullShare} _ : sProp 𝕄)) slots_univ)))
    isplitl [Ha]; · iexact Ha
    iexact Hb
  isplitl [H0]; · iexact H0
  iexact H1

/-- The whole task, from its operands, its scratch and its four semaphores at zero. -/
theorem wp_body :
    iprop(MayWaits (th d i) (none : HIx 1) O ∗ Ow d i O W ∗ Opd d i A w q
      ∗ (∃ g : Buf (Elt F) (oL d), (oL d ↦[(oSet (tn i) 0 128 : Finset (Idx (oL d)))]{fullShare} g))
      ∗ ((∃ f : Buf (Elt F) (xvL d i), (xvL d i ↦{fullShare} f)) ∗ (∃ f : Buf (Elt F) (bvL d i), (bvL d i ↦{fullShare} f))
        ∗ (∃ f : Buf (Elt F) (ovL d i), (ovL d i ↦{fullShare} f)) ∗ (∃ f : Buf (Elt F) (wvL d i), (wvL d i ↦{fullShare} f)))
      ∗ (semVal (th d i, SemLoc.dma (sq 0)) 0 ∗ semVal (th d i, SemLoc.dma (sq 1)) 0
        ∗ semVal (th d i, SemLoc.dma cc0_scoped0.sem) 0 ∗ semVal (th d i, SemLoc.dma cc0_scoped1.sem) 0))
      ⊢ wp frame (wpE (defs₀ (F := F)) 𝒱₀ (th d i) none) Set.univ (body (F := F) (i := i))
          fun _ => (iprop(Ow d i O W ∗ (Opd d i A w q ∗ (oL d ↦[(oSet (tn i) 0 128 : Finset (Idx (oL d)))]{fullShare} (outF A w : Buf (Elt F) (oL d))))
      ∗ ((∃ f : Buf (Elt F) (xvL d i), (xvL d i ↦{fullShare} f)) ∗ (∃ f : Buf (Elt F) (bvL d i), (bvL d i ↦{fullShare} f))
        ∗ (∃ f : Buf (Elt F) (ovL d i), (ovL d i ↦{fullShare} f)) ∗ (∃ f : Buf (Elt F) (wvL d i), (wvL d i ↦{fullShare} f)))
      ∗ (semVal (th d i, SemLoc.dma (sq 0)) 0 ∗ semVal (th d i, SemLoc.dma (sq 1)) 0
        ∗ semVal (th d i, SemLoc.dma cc0_scoped0.sem) 0 ∗ semVal (th d i, SemLoc.dma cc0_scoped1.sem) 0)) : sProp 𝕄) := by
  unfold body
  iintro ⟨#Hmw, HO, Hop, Ho, ⟨Hxv, Hbv, Hov, Hwv⟩, Hs0, Hs1, HsA, HsB⟩
  iapply (wp_seq d i (wp_copyIn d i A w O W q)) $$ [HO Hop Hxv Hwv HsA HsB]
  · isplitr; · iexact Hmw
    isplitl [HO]; · iexact HO
    isplitl [Hop]; · iexact Hop
    isplitl [Hxv]; · iexact Hxv
    isplitl [Hwv]; · iexact Hwv
    isplitl [HsA]; · iexact HsA
    iexact HsB
  iintro %u ⟨HO, Hop, Hxv, Hwv, HsA, HsB⟩
  simp only [Prog.lift, Prog.bind_op, Prog.bind_ret, Prog.pure_eq_ret]
  iapply (wp_load 𝒱₀ (th d i) none Set.univ (m := wv) (S := Finset.univ) (Finset.subset_univ _)) $$ Hwv; iintro Hwv
  ihave HI := (idle_in d i) $$ [Hov Hs0 Hs1]
  · isplitl [Hov]; · iexact Hov
    isplitl [Hs0]; · iexact Hs0
    iexact Hs1
  icases HI with ⟨H0, H1⟩
  iapply (wp_last d i (wp_work d i A w O W)) $$ [HO Hxv Hbv H0 H1 Ho]
  · unfold Pre0
    isplitr; · iexact Hmw
    isplitl [HO]; · iexact HO
    isplitl [Hxv]; · iexact Hxv
    isplitl [Hbv]; · iexact Hbv
    isplitl [H0]; · iexact H0
    isplitl [H1]; · iexact H1
    iexact Ho
  unfold Post0
  iintro %u2 ⟨HO, Hxv, Hbv, H0, H1, Ho⟩
  ihave HI := (idle_out d i) $$ [H0 H1]
  · isplitl [H0]; · iexact H0
    iexact H1
  icases HI with ⟨Hov, Hs0, Hs1⟩
  isplitl [HO]; · iexact HO
  isplitl [Hop Ho]
  · isplitl [Hop]; · iexact Hop
    iexact Ho
  isplitl [Hxv Hbv Hov Hwv]
  · isplitl [Hxv]; · iexact Hxv
    isplitl [Hbv]; · iexact Hbv
    isplitl [Hov]; · iexact Hov
    iexists _; iexact Hwv
  isplitl [Hs0]; · iexact Hs0
  isplitl [Hs1]; · iexact Hs1
  isplitl [HsA]; · iexact HsA
  iexact HsB

end Cert.KernelIdeal.Lif
end
-- ==== Proof.Lif.Launch.lean ====
/-
  The launch: what the call hands each core and each tile, the tiles' obligations, and the arrays split among the tiles
  and joined again.
-/
module

public import proofs.«01_k».proof.Proof.Lif.Tile

@[expose] public section

set_option maxRecDepth 65536

noncomputable section

namespace Cert.KernelIdeal.Lif

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.ValueIdx (ix1 ix2 ix3 eq_ix1 eq_ix2)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (i : grid0.Coords)

/-! ## A tile's scoped semaphores and buffers -/

theorem mem_own (sm : SemLoc sig) (h : sm.isScoped .scVector = true) : ((th d i, sm) : GSem nD τ sig) ∈ ownCells (th d i) :=
  mem_ownCells.mpr ⟨rfl, h⟩

theorem cell_ne {a b : SemLoc sig} (h : a ≠ b) : ((th d i, a) : GSem nD τ sig) ≠ (th d i, b) := fun e => h (congrArg Prod.snd e)

/-- The tile's other semaphores. -/
def semRest : Finset (GSem nD τ sig) :=
  ((((ownCells (th d i)).erase (th d i, SemLoc.dma (sq 0))).erase (th d i, SemLoc.dma (sq 1))).erase (th d i, SemLoc.dma cc0_scoped0.sem)).erase
    (th d i, SemLoc.dma cc0_scoped1.sem)

theorem ownSems0_V :
    (ownSems0 (th d i) : sProp 𝕄)
      = iprop(semVal (th d i, SemLoc.dma (sq 0)) 0 ∗ semVal (th d i, SemLoc.dma (sq 1)) 0
        ∗ semVal (th d i, SemLoc.dma cc0_scoped0.sem) 0 ∗ semVal (th d i, SemLoc.dma cc0_scoped1.sem) 0
        ∗ bigSep (semRest d i) fun g => semVal g 0) := by
  unfold SparseCore.Cfg.ownSems0 semRest
  rw [SparseCore.bigSep_erase' (mem_own d i (SemLoc.dma (sq 0)) (by decide)),
    SparseCore.bigSep_erase' (Finset.mem_erase.mpr ⟨cell_ne d i (by decide), mem_own d i (SemLoc.dma (sq 1)) (by decide)⟩),
    SparseCore.bigSep_erase' (Finset.mem_erase.mpr ⟨cell_ne d i (by decide), Finset.mem_erase.mpr ⟨cell_ne d i (by decide),
      mem_own d i (SemLoc.dma cc0_scoped0.sem) (by decide)⟩⟩),
    SparseCore.bigSep_erase' (Finset.mem_erase.mpr ⟨cell_ne d i (by decide), Finset.mem_erase.mpr ⟨cell_ne d i (by decide),
      Finset.mem_erase.mpr ⟨cell_ne d i (by decide), mem_own d i (SemLoc.dma cc0_scoped1.sem) (by decide)⟩⟩⟩)]

/-- The tile as a processor, and a scratch buffer of its as a device's. -/
abbrev pr : Proc τ := Proc.scVector ((i 0).castLE hcore0) ((i 1).castLE hsub0)

theorem ref_ne {a b : Ref sig .scVector} (h : a ≠ b) : (pr i).devRef a ≠ (pr i).devRef b := fun e => h (Proc.devRef_injective _ e)

/-- The tile's other buffers. -/
def bufRest : Finset (DevRef τ sig) :=
  ((((ownRefs (τ := τ) (pr i)).erase ((pr i).devRef cc0_scratch0)).erase ((pr i).devRef cc0_scratch1)).erase ((pr i).devRef cc0_scratch2)).erase
    ((pr i).devRef cc0_scratch3)

theorem ownBufs_V :
    (ownBufs (th d i) : sProp 𝕄)
      = iprop((∃ f : Buf (Elt F) (xvL d i), (xvL d i ↦{fullShare} f)) ∗ (∃ f : Buf (Elt F) (bvL d i), (bvL d i ↦{fullShare} f))
        ∗ (∃ f : Buf (Elt F) (ovL d i), (ovL d i ↦{fullShare} f)) ∗ (∃ f : Buf (Elt F) (wvL d i), (wvL d i ↦{fullShare} f))
        ∗ bigSep (bufRest i) fun b => iprop(∃ f, ((d, b) : Loc nD τ sig) ↦{fullShare} f)) := by
  unfold SparseCore.Cfg.ownBufs bufRest
  refine (SparseCore.bigSep_erase' (SparseCore.Cfg.mem_ownRefs_of_owner (p := pr i) (b := (pr i).devRef cc0_scratch0) rfl)).trans ?_
  rw [SparseCore.bigSep_erase' (Finset.mem_erase.mpr ⟨ref_ne i (show (cc0_scratch1 : Ref sig .scVector) ≠ cc0_scratch0 by decide),
      SparseCore.Cfg.mem_ownRefs_of_owner (p := pr i) (b := (pr i).devRef cc0_scratch1) rfl⟩),
    SparseCore.bigSep_erase' (Finset.mem_erase.mpr ⟨ref_ne i (show (cc0_scratch2 : Ref sig .scVector) ≠ cc0_scratch1 by decide),
      Finset.mem_erase.mpr ⟨ref_ne i (show (cc0_scratch2 : Ref sig .scVector) ≠ cc0_scratch0 by decide),
      SparseCore.Cfg.mem_ownRefs_of_owner (p := pr i) (b := (pr i).devRef cc0_scratch2) rfl⟩⟩),
    SparseCore.bigSep_erase' (Finset.mem_erase.mpr ⟨ref_ne i (show (cc0_scratch3 : Ref sig .scVector) ≠ cc0_scratch2 by decide),
      Finset.mem_erase.mpr ⟨ref_ne i (show (cc0_scratch3 : Ref sig .scVector) ≠ cc0_scratch1 by decide),
      Finset.mem_erase.mpr ⟨ref_ne i (show (cc0_scratch3 : Ref sig .scVector) ≠ cc0_scratch0 by decide),
      SparseCore.Cfg.mem_ownRefs_of_owner (p := pr i) (b := (pr i).devRef cc0_scratch3) rfl⟩⟩⟩)]

variable [FloatOps F]

/-! ## What is handed over -/

variable (m : (ℓ : Loc nD τ sig) → Buf (Elt F) ℓ) (ρ : Dev nD → PrngReg)

/-- The reshaped input and the weight, as @main leaves them for the call. -/
def xA : FVec F S128x32x64 .f32 :=
  shapeCast S128x32x64 (m ((SparseCore.T d).loc main_arg0) : FVec F S128x32x32x2 .f32) shapeCasts_S128x32x32x2_S128x32x64
def wA : F .f32 := broadcastInDim S16 ![] bcast_S_S16 (m ((SparseCore.T d).loc main_arg2) : FVec F S_ .f32) (ix1 0)

/-- The share of the weights a core is handed, and a tile of the core. -/
abbrev qC (c : Nat) : PosShare TreeShare := shareTokN fullShare c
abbrev qT (c s : Nat) : PosShare TreeShare := shareTokN (qC c) s

/-- The batch rows of a core's tiles. -/
def xC (c : Nat) : Finset S128x32x64.Idx := Finset.univ.filter fun j => (j 1).val % 2 = c
def oC (c : Nat) : Finset S16777216.Idx := Finset.univ.filter fun p => (p 0).val / 4096 % 2 = c

theorem xC_tiles (c : Nat) (hc : c < 2) : (Finset.univ : Finset (Fin 16)).biUnion (fun s => xSet (2 * s.val + c)) = xC c := by
  ext j
  have hj : (j 1).val < 32 := (j 1).isLt
  unfold xC
  rw [Finset.mem_biUnion, Finset.mem_filter]
  constructor
  · rintro ⟨s, -, hs⟩
    rw [mem_xSet] at hs
    exact ⟨Finset.mem_univ _, by omega⟩
  · rintro ⟨-, h⟩
    exact ⟨⟨(j 1).val / 2, by omega⟩, Finset.mem_univ _, mem_xSet.mpr (show (j 1).val = 2 * ((j 1).val / 2) + c by omega)⟩
theorem xC_disj (c : Nat) : ∀ s ∈ (Finset.univ : Finset (Fin 16)), ∀ s' ∈ (Finset.univ : Finset (Fin 16)), s ≠ s' → Disjoint (xSet (2 * s.val + c)) (xSet (2 * s'.val + c)) := by
  intro s _ s' _ h
  refine Finset.disjoint_left.mpr fun j hj hj' => h (Fin.ext ?_)
  rw [mem_xSet] at hj hj'; omega
theorem xC_cover : (Finset.univ : Finset (Fin 2)).biUnion (fun c => xC c.val) = Finset.univ := by
  ext j
  rw [Finset.mem_biUnion]
  exact ⟨fun _ => Finset.mem_univ _, fun _ => ⟨⟨(j 1).val % 2, by omega⟩, Finset.mem_univ _, Finset.mem_filter.mpr ⟨Finset.mem_univ _, rfl⟩⟩⟩
theorem xC_disj2 : ∀ c ∈ (Finset.univ : Finset (Fin 2)), ∀ c' ∈ (Finset.univ : Finset (Fin 2)), c ≠ c' → Disjoint (xC c.val) (xC c'.val) := by
  intro c _ c' _ h
  refine Finset.disjoint_left.mpr fun j hj hj' => h (Fin.ext ?_)
  exact (Finset.mem_filter.mp hj).2.symm.trans (Finset.mem_filter.mp hj').2

theorem oC_tiles (c : Nat) (hc : c < 2) : (Finset.univ : Finset (Fin 16)).biUnion (fun s => oSet (2 * s.val + c) 0 128) = oC c := by
  ext p
  have hp : (p 0).val < 16777216 := (p 0).isLt
  unfold oC
  rw [Finset.mem_biUnion, Finset.mem_filter]
  constructor
  · rintro ⟨s, -, hs⟩
    rw [mem_oSet] at hs
    exact ⟨Finset.mem_univ _, by omega⟩
  · rintro ⟨-, h⟩
    refine ⟨⟨(p 0).val / 4096 % 32 / 2, by omega⟩, Finset.mem_univ _, mem_oSet.mpr ⟨?_, Nat.zero_le _, by omega⟩⟩
    show (p 0).val / 4096 % 32 = 2 * ((p 0).val / 4096 % 32 / 2) + c
    omega
theorem oC_disj (c : Nat) : ∀ s ∈ (Finset.univ : Finset (Fin 16)), ∀ s' ∈ (Finset.univ : Finset (Fin 16)), s ≠ s' → Disjoint (oSet (2 * s.val + c) 0 128) (oSet (2 * s'.val + c) 0 128) := by
  intro s _ s' _ h
  refine Finset.disjoint_left.mpr fun j hj hj' => h (Fin.ext ?_)
  rw [mem_oSet] at hj hj'; omega
theorem oC_cover : (Finset.univ : Finset (Fin 2)).biUnion (fun c => oC c.val) = Finset.univ := by
  ext j
  rw [Finset.mem_biUnion]
  exact ⟨fun _ => Finset.mem_univ _, fun _ => ⟨⟨(j 0).val / 4096 % 2, by omega⟩, Finset.mem_univ _, Finset.mem_filter.mpr ⟨Finset.mem_univ _, rfl⟩⟩⟩
theorem oC_disj2 : ∀ c ∈ (Finset.univ : Finset (Fin 2)), ∀ c' ∈ (Finset.univ : Finset (Fin 2)), c ≠ c' → Disjoint (oC c.val) (oC c'.val) := by
  intro c _ c' _ h
  refine Finset.disjoint_left.mpr fun j hj hj' => h (Fin.ext ?_)
  exact (Finset.mem_filter.mp hj).2.symm.trans (Finset.mem_filter.mp hj').2

/-- What a core is handed of the input and the weights. -/
def CoreIn (c : Nat) : sProp 𝕄 :=
  iprop((xL d ↦[(xC c : Finset (Idx (xL d)))]{fullShare} (xA d m : Buf (Elt F) (xL d)))
    ∗ (wL d ↦{qC c} ((fun _ => wA d m : FVec F S16 .f32) : Buf (Elt F) (wL d))))
/-- What tile `s` of core `c` is handed of them. -/
def TileIn (c s : Nat) : sProp 𝕄 :=
  iprop((xL d ↦[(xSet (2 * s + c) : Finset (Idx (xL d)))]{fullShare} (xA d m : Buf (Elt F) (xL d)))
    ∗ (wL d ↦{qT c s} ((fun _ => wA d m : FVec F S16 .f32) : Buf (Elt F) (wL d))))
/-- The rows of the output a core, or a tile, writes, at contents `f`. -/
abbrev CoreOut (f : FVec F S16777216 .f32) (c : Nat) : sProp 𝕄 := oL d ↦[(oC c : Finset (Idx (oL d)))]{fullShare} (f : Buf (Elt F) (oL d))
abbrev TileOut (f : FVec F S16777216 .f32) (c s : Nat) : sProp 𝕄 := oL d ↦[(oSet (2 * s + c) 0 128 : Finset (Idx (oL d)))]{fullShare} (f : Buf (Elt F) (oL d))

/-- The flat output before the call and after it. -/
abbrev o0 : FVec F S16777216 .f32 := (m (oL d) : FVec F S16777216 .f32)
abbrev o1 : FVec F S16777216 .f32 := outF (xA d m) (wA d m)

instance coreIn_storable (c : Nat) : BI.Storable (upEmb : UEmb _ 𝕄) (CoreIn d m c) := by unfold CoreIn; infer_instance
instance tileIn_storable (c s : Nat) : BI.Storable (upEmb : UEmb _ 𝕄) (TileIn d m c s) := by unfold TileIn; infer_instance

/-- The call's payloads. -/
def P : (K (F := F)).Pay (nD := nD) (Val := Elt F) (Name := ℕ) (U := UU) where
  st := fun _ d c => iprop(CoreIn d m c.val ∗ CoreOut d (o0 d m) c.val)
  dn := fun _ d c => iprop(CoreIn d m c.val ∗ CoreOut d (o1 d m) c.val)
  go := fun _ d c s => iprop(TileIn d m c.val s.val ∗ TileOut d (o0 d m) c.val s.val)
  td := fun _ d c s => iprop(TileIn d m c.val s.val ∗ TileOut d (o1 d m) c.val s.val)
  x := fun _ _ => iprop(emp)

instance P_storable : (P (F := F) m).IsStorable where
  st _ d c := by unfold P; infer_instance
  dn _ d c := by unfold P; infer_instance
  go _ d c s := by unfold P; infer_instance
  td _ d c s := by unfold P; infer_instance

/-! ## The tiles' obligation -/

theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (Opd d i (xA d m) (wA d m) q ∗ (oL d ↦[(oSet (tn i) 0 128 : Finset (Idx (oL d)))]{fullShare} (o0 d m : Buf (Elt F) (oL d))))
        ∗ scopedBufs (th d i) ∗ scopedSems0 (th d i) ∗ owes (th d i) O W)
      ⊢ wp frame (wpE (defs₀ (F := F)) 𝒱₀ (th d i) none) Set.univ (body (F := F) (i := i))
          fun _ => iprop((Opd d i (xA d m) (wA d m) q ∗ (oL d ↦[(oSet (tn i) 0 128 : Finset (Idx (oL d)))]{fullShare} (o1 d m : Buf (Elt F) (oL d))))
            ∗ scopedBufs (th d i) ∗ scopedSems0 (th d i)
            ∗ ∃ W', ⌜∀ p ∈ W', p ∈ W ∨ p.2 = none ∨ p.2 = some (0 : Fin 1)⌝ ∗ owes (th d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  iintro ⟨#Hlv, -, ⟨Hop, Ho⟩, ⟨Hxv, Hbv, Hov, Hwv, Hbufs⟩, ⟨Hs0, Hs1, HsA, HsB, Hsems⟩, HO⟩
  ihave Hmw := (show levAts (K (F := F)).L (K (F := F)).lev ⊢ Transfers.MayWaits (th d i) (none : HIx 1) O from
    (K (F := F)).mayWaits_none (thr := th d i) hO) $$ Hlv
  iapply (wp_last d i (wp_body d i (xA d m) (wA d m) O W q)) $$ [Hmw HO Hop Ho Hxv Hbv Hov Hwv Hs0 Hs1 HsA HsB]
  · isplitl [Hmw]; · iexact Hmw
    isplitl [HO]
    · unfold Ow; iexists W; isplitr
      · ipureintro; exact fun p hp => Or.inl hp
      · iexact HO
    isplitl [Hop]; · iexact Hop
    isplitl [Ho]; · iexists _; iexact Ho
    isplitl [Hxv Hbv Hov Hwv]
    · isplitl [Hxv]; · iexact Hxv
      isplitl [Hbv]; · iexact Hbv
      isplitl [Hov]; · iexact Hov
      iexact Hwv
    isplitl [Hs0]; · iexact Hs0
    isplitl [Hs1]; · iexact Hs1
    isplitl [HsA]; · iexact HsA
    iexact HsB
  iintro %u ⟨HO, Hop, ⟨Hxv, Hbv, Hov, Hwv⟩, Hs0, Hs1, HsA, HsB⟩
  isplitl [Hop]; · iexact Hop
  isplitl [Hxv Hbv Hov Hwv Hbufs]
  · isplitl [Hxv]; · iexact Hxv
    isplitl [Hbv]; · iexact Hbv
    isplitl [Hov]; · iexact Hov
    isplitl [Hwv]; · iexact Hwv
    iexact Hbufs
  isplitl [Hs0 Hs1 HsA HsB Hsems]
  · isplitl [Hs0]; · iexact Hs0
    isplitl [Hs1]; · iexact Hs1
    isplitl [HsA]; · iexact HsA
    isplitl [HsB]; · iexact HsB
    iexact Hsems
  unfold Ow
  icases HO with ⟨%W', %hW', HO⟩
  iexists W'; isplitr
  · ipureintro; exact fun p hp => (hW' p hp).imp id Or.inl
  · iexact HO

/-- The grid coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem tn_coordsV (c : Fin (grid0.bound 0)) (s : Fin (grid0.bound 1)) : tn (coordsV c s) = 2 * s.val + c.val := rfl

theorem tile_at (hF : (K (F := F)).Facts) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ (TileIn d m c.val s.val ∗ TileOut d (o0 d m) c.val s.val)
        ∗ scopedBufs (V d (c.castLE hcore0) (s.castLE hsub0)) ∗ scopedSems0 (V d (c.castLE hcore0) (s.castLE hsub0)) ∗ owes (V d (c.castLE hcore0) (s.castLE hsub0)) O W)
      ⊢ wp frame (wpE (defs₀ (F := F)) 𝒱₀ (V d (c.castLE hcore0) (s.castLE hsub0)) none) Set.univ (body (F := F) (i := coordsV c s))
          fun _ => iprop((TileIn d m c.val s.val ∗ TileOut d (o1 d m) c.val s.val)
            ∗ scopedBufs (V d (c.castLE hcore0) (s.castLE hsub0)) ∗ scopedSems0 (V d (c.castLE hcore0) (s.castLE hsub0))
            ∗ ∃ W', ⌜∀ p ∈ W', p ∈ W ∨ p.2 = none ∨ p.2 = some (0 : Fin 1)⌝ ∗ owes (V d (c.castLE hcore0) (s.castLE hsub0)) O W') := by
  have h := tile_body d (coordsV c s) m hF (qT c.val s.val) O W hO
  unfold Opd at h
  rw [tn_coordsV] at h
  unfold TileIn TileOut
  exact h

theorem defs₀_vector (c : Fin τ.nSC) (s : Fin τ.nSub) :
    defs₀ (F := F) (.scVector c s) 0 ()
      = SparseCore.onTile hcore0 hsub0 (fun c s => cc0__sc_body (F := F) (coordsV c s) xh (Memref.isWhole_whole _) wh (Memref.isWhole_whole _)
          oh (Memref.isWhole_whole _) xv (Memref.isWhole_whole _) bv (Memref.isWhole_whole _) ov (Memref.isWhole_whole _) wv (Memref.isWhole_whole _)
          cc0_scratch4 cc0_scoped0 cc0_scoped1) ⟨⟩ c s := rfl

set_option maxHeartbeats 4000000 in
theorem tileObl (hF : (K (F := F)).Facts) : (K (F := F)).TileObl (D (F := F)) 𝒱 (P m) v₀ 0 := by
  intro d c i O W hO _ _
  simp only [show (P m).ox = fun _ _ => 0 from rfl, add_zero]
  rw [show (P m).go 0 d c i = iprop(TileIn d m c.val i.val ∗ TileOut d (o0 d m) c.val i.val) from rfl,
    show (P m).td 0 d c i = iprop(TileIn d m c.val i.val ∗ TileOut d (o1 d m) c.val i.val) from rfl]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_at d m hF ⟨_, hci.1⟩ ⟨_, hci.2⟩ O W hO

end Cert.KernelIdeal.Lif
end
-- ==== Proof.Lif.Main.lean ====
/-
  The run of the whole program: the arrays split among the cores and tiles, @main around the call, and what memory holds
  at the end.
-/
module

public import proofs.«01_k».proof.Proof.Lif.Launch

@[expose] public section

set_option maxRecDepth 65536

noncomputable section

namespace Cert.KernelIdeal.Lif

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.StableHlo (held held_split held_sdiff_result wp_hlo_within)
open Idealize.ShloMosaic.ValueIdx (ix1 ix2 ix3 eq_ix1 eq_ix2)

variable {F : FTy → Type}

local notation "𝕄" => MT nD τ sig (HIx 1) (Elt F) ℕ UU ℕ

variable [FloatOps F]
variable (d : Dev nD) (m : (ℓ : Loc nD τ sig) → Buf (Elt F) ℓ) (ρ : Dev nD → PrngReg)

/-! ## The arrays split among the cores and the tiles, and joined -/

theorem x_tiles (c : Nat) (hc : c < 2) (A : FVec F S128x32x64 .f32) :
    (xL d ↦[(xC c : Finset (Idx (xL d)))]{fullShare} (A : Buf (Elt F) (xL d)) : sProp 𝕄)
      = bigSep Finset.univ fun s : Fin 16 => (xL d ↦[(xSet (2 * s.val + c) : Finset (Idx (xL d)))]{fullShare} (A : Buf (Elt F) (xL d))) := by
  rw [← pointsTo_biUnion Finset.univ (ℓ := xL d) (fun s : Fin 16 => (xSet (2 * s.val + c) : Finset (Idx (xL d)))) (xC_disj c)]
  exact congrArg (fun I => (xL d ↦[I]{fullShare} (A : Buf (Elt F) (xL d)) : sProp 𝕄)) (xC_tiles c hc).symm

theorem o_tiles (c : Nat) (hc : c < 2) (f : FVec F S16777216 .f32) :
    (CoreOut d f c : sProp 𝕄) = bigSep Finset.univ fun s : Fin 16 => TileOut d f c s.val := by
  unfold CoreOut TileOut
  rw [← pointsTo_biUnion Finset.univ (ℓ := oL d) (fun s : Fin 16 => (oSet (2 * s.val + c) 0 128 : Finset (Idx (oL d)))) (oC_disj c)]
  exact congrArg (fun I => (oL d ↦[I]{fullShare} (f : Buf (Elt F) (oL d)) : sProp 𝕄)) (oC_tiles c hc).symm

theorem x_cores (A : FVec F S128x32x64 .f32) :
    (xL d ↦{fullShare} (A : Buf (Elt F) (xL d)) : sProp 𝕄)
      = bigSep Finset.univ fun c : Fin 2 => (xL d ↦[(xC c.val : Finset (Idx (xL d)))]{fullShare} (A : Buf (Elt F) (xL d))) := by
  rw [← pointsTo_biUnion Finset.univ (ℓ := xL d) (fun c : Fin 2 => (xC c.val : Finset (Idx (xL d)))) xC_disj2]
  exact congrArg (fun I => (xL d ↦[I]{fullShare} (A : Buf (Elt F) (xL d)) : sProp 𝕄)) xC_cover.symm

theorem o_cores (f : FVec F S16777216 .f32) :
    (oL d ↦{fullShare} (f : Buf (Elt F) (oL d)) : sProp 𝕄) = bigSep Finset.univ fun c : Fin 2 => CoreOut d f c.val := by
  unfold CoreOut
  rw [← pointsTo_biUnion Finset.univ (ℓ := oL d) (fun c : Fin 2 => (oC c.val : Finset (Idx (oL d)))) oC_disj2]
  exact congrArg (fun I => (oL d ↦[I]{fullShare} (f : Buf (Elt F) (oL d)) : sProp 𝕄)) oC_cover.symm

abbrev wB (w : F .f32) : Buf (Elt F) (wL d) := (fun _ => w : FVec F S16 .f32)

/-- What a core was handed is what its tiles are handed and a remainder of its share of the weights. -/
theorem core_tiles (c : Nat) (hc : c < 2) (f : FVec F S16777216 .f32) :
    (iprop(CoreIn d m c ∗ CoreOut d f c) : sProp 𝕄)
      ⊣⊢ iprop((bigSep Finset.univ fun s : Fin 16 => iprop(TileIn d m c s.val ∗ TileOut d f c s.val)) ∗ wL d ↦{shareDrop (qC c) 16} wB d (wA d m)) := by
  have h : (wL d ↦{qC c} wB d (wA d m) : sProp 𝕄) ⊣⊢ iprop((wL d ↦{shareDrop (qC c) 16} wB d (wA d m))
      ∗ bigSep Finset.univ fun s : Fin 16 => wL d ↦{qT c s.val} wB d (wA d m)) := Transfers.pointsTo_toks (qC c) 16
  unfold CoreIn TileIn
  rw [bigSep_sep', bigSep_sep', ← x_tiles d c hc, ← o_tiles d c hc]
  constructor
  · iintro ⟨⟨Hx, Hw⟩, Ho⟩
    ihave Hw' := h.1 $$ Hw
    icases Hw' with ⟨Hd, Hw⟩
    isplitr [Hd]
    · isplitr [Ho]
      · isplitl [Hx]; · iexact Hx
        iexact Hw
      · iexact Ho
    · iexact Hd
  · iintro ⟨⟨⟨Hx, Hw⟩, Ho⟩, Hd⟩
    isplitr [Ho]
    · isplitl [Hx]; · iexact Hx
      iapply h.2
      isplitl [Hd]; · iexact Hd
      iexact Hw
    · iexact Ho

/-- The three arrays whole are the cores' parts and a remainder of the weights. -/
theorem whole_cores (f : FVec F S16777216 .f32) :
    (iprop((xL d ↦{fullShare} (xA d m : Buf (Elt F) (xL d))) ∗ (wL d ↦{fullShare} wB d (wA d m)) ∗ oL d ↦{fullShare} (f : Buf (Elt F) (oL d))) : sProp 𝕄)
      ⊣⊢ iprop((bigSep Finset.univ fun c : Fin 2 => iprop(CoreIn d m c.val ∗ CoreOut d f c.val)) ∗ wL d ↦{shareDrop fullShare 2} wB d (wA d m)) := by
  have h : (wL d ↦{fullShare} wB d (wA d m) : sProp 𝕄) ⊣⊢ iprop((wL d ↦{shareDrop fullShare 2} wB d (wA d m))
      ∗ bigSep Finset.univ fun c : Fin 2 => wL d ↦{qC c.val} wB d (wA d m)) := Transfers.pointsTo_toks fullShare 2
  unfold CoreIn
  rw [bigSep_sep', bigSep_sep', ← x_cores d, ← o_cores d]
  constructor
  · iintro ⟨Hx, Hw, Ho⟩
    ihave Hw' := h.1 $$ Hw
    icases Hw' with ⟨Hd, Hw⟩
    isplitr [Hd]
    · isplitr [Ho]
      · isplitl [Hx]; · iexact Hx
        iexact Hw
      · iexact Ho
    · iexact Hd
  · iintro ⟨⟨⟨Hx, Hw⟩, Ho⟩, Hd⟩
    isplitl [Hx]; · iexact Hx
    isplitr [Ho]
    · iapply h.2
      isplitl [Hd]; · iexact Hd
      iexact Hw
    · iexact Ho

theorem vecSplit : (K (F := F)).VecSplit' (P m) 0 := by
  intro d c
  have hc : c.val < 2 := c.isLt
  show (iprop(CoreIn d m c.val ∗ CoreOut d (o0 d m) c.val) : sProp 𝕄) ⊢ |={Set.univ}=> iprop(
      (bigSep Finset.univ fun s : Fin 16 => iprop(TileIn d m c.val s.val ∗ TileOut d (o0 d m) c.val s.val))
      ∗ ((bigSep Finset.univ fun s : Fin 16 => iprop(TileIn d m c.val s.val ∗ TileOut d (o1 d m) c.val s.val)) -∗ iprop(CoreIn d m c.val ∗ CoreOut d (o1 d m) c.val)))
  iintro H
  ihave H' := (core_tiles d m c.val hc (o0 d m)).1 $$ H
  icases H' with ⟨Ht, Hd⟩
  imodintro
  isplitl [Ht]; · iexact Ht
  iintro Ht
  iapply (core_tiles d m c.val hc (o1 d m)).2
  isplitl [Ht]; · iexact Ht
  iexact Hd

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev rx : DevRef τ sig := Proc.devRef .tc (main_v0 : Ref sig .tc)
abbrev rw' : DevRef τ sig := Proc.devRef .tc (main_v1 : Ref sig .tc)
abbrev ro : DevRef τ sig := Proc.devRef .tc (main_v2 : Ref sig .tc)
abbrev rr : DevRef τ sig := Proc.devRef .tc (main_v3 : Ref sig .tc)

abbrev a0L : Loc nD τ sig := (SparseCore.T d).loc main_arg0
abbrev a1L : Loc nD τ sig := (SparseCore.T d).loc main_arg1
abbrev a2L : Loc nD τ sig := (SparseCore.T d).loc main_arg2
abbrev rL : Loc nD τ sig := (SparseCore.T d).loc main_v3

/-- The TensorCore's arrays. -/
abbrev S7 : Finset (DevRef τ sig) := {r0, r1, r2, rx, rw', ro, rr}

theorem held_S7 (U : Valuation τ sig (Elt F)) :
    (held (T d) S7 U : sProp 𝕄) = iprop((a0L d ↦{fullShare} U r0) ∗ (a1L d ↦{fullShare} U r1) ∗ (a2L d ↦{fullShare} U r2)
      ∗ (xL d ↦{fullShare} U rx) ∗ (wL d ↦{fullShare} U rw') ∗ (oL d ↦{fullShare} U ro) ∗ rL d ↦{fullShare} U rr) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (U : (b : Ref sig .tc) → Buf (Elt F) ((d.tc : Thread nD τ).loc b)) :
    (unscopedBufs d U : sProp 𝕄) = iprop((a0L d ↦{fullShare} U main_arg0) ∗ (a1L d ↦{fullShare} U main_arg1) ∗ (a2L d ↦{fullShare} U main_arg2)
      ∗ (xL d ↦{fullShare} U main_v0) ∗ (wL d ↦{fullShare} U main_v1) ∗ (oL d ↦{fullShare} U main_v2) ∗ rL d ↦{fullShare} U main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- @main's operations on the host. -/
abbrev opX : HloOp τ sig (Elt F) := StableHlo.reshape main_arg0 main_v0 (rfl : (.f32 : EltTy) = .f32) shapeCasts_S128x32x32x2_S128x32x64
abbrev opW : HloOp τ sig (Elt F) :=
  StableHlo.unary main_arg2 main_v1 (broadcastInDim S16 ![] bcast_S_S16 : (⟨S_, .f32⟩ : BufTy).Contents (Elt F) → (⟨S16, .f32⟩ : BufTy).Contents (Elt F))
abbrev opR : HloOp τ sig (Elt F) := StableHlo.reshape main_v2 main_v3 (rfl : (.f32 : EltTy) = .f32) shapeCasts_S16777216_S128x32x32x128

/-- The contents of every buffer at the launch, before the call, and after it. -/
def V0 : Valuation τ sig (Elt F) := fun b => m (d, b)
def V2 : Valuation τ sig (Elt F) := (opW (F := F)).result ((opX (F := F)).result (V0 d m))
def V3 : Valuation τ sig (Elt F) := Function.update (V2 d m) ro (o1 d m : FVec F S16777216 .f32)

/-- What @main returns. -/
def res : FVec F S128x32x32x128 .f32 := shapeCast S128x32x32x128 (o1 d m) shapeCasts_S16777216_S128x32x32x128

theorem unscoped_held : (unscopedBufs d (fun b => m ((SparseCore.T d).loc b)) : sProp 𝕄) = held (T d) S7 (V0 d m) := by
  rw [unscopedBufs_eq, held_S7]; rfl

theorem V2_keep {b : DevRef τ sig} (hx : b ≠ rx) (hw : b ≠ rw') : V2 d m b = m (d, b) := by
  unfold V2
  rw [(opW (F := F)).result_of_not_mem _ (b := b) (fun h => hw (Finset.mem_singleton.mp h)),
    (opX (F := F)).result_of_not_mem _ (b := b) (fun h => hx (Finset.mem_singleton.mp h))]
  rfl
theorem V2_x : V2 d m rx = (xA d m : FVec F S128x32x64 .f32) := by
  unfold V2
  rw [(opW (F := F)).result_of_not_mem _ (b := rx) (show rx ∉ ({rw'} : Finset (DevRef τ sig)) by decide)]
  exact StableHlo.reshape_result main_arg0 main_v0 _ _ _ _ _
theorem V2_w : V2 d m rw' = wB d (wA d m) := by
  unfold V2
  refine (StableHlo.unary_result main_arg2 main_v1 _ _ _ _).trans ?_
  rw [(opX (F := F)).result_of_not_mem _ (b := r2) (show r2 ∉ ({rx} : Finset (DevRef τ sig)) by decide)]
  funext j
  show (m (a2L d) : FVec F S_ .f32) _ = (m (a2L d) : FVec F S_ .f32) _
  exact congrArg _ (funext fun k => k.elim0)

theorem V3_o : V3 d m ro = (o1 d m : FVec F S16777216 .f32) := Function.update_self _ _ _
theorem V3_ne {b : DevRef τ sig} (h : b ≠ ro) : V3 d m b = V2 d m b := Function.update_of_ne h _ _

theorem V4_r : (opR (F := F)).result (V3 d m) rr = (res d m : FVec F S128x32x32x128 .f32) := by
  refine (StableHlo.reshape_result main_v2 main_v3 _ _ _ _ _).trans ?_
  rw [V3_o]; rfl
theorem V4_keep {b : DevRef τ sig} (h : b ≠ rr) (ho : b ≠ ro) (hx : b ≠ rx) (hw : b ≠ rw') : (opR (F := F)).result (V3 d m) b = m (d, b) := by
  rw [(opR (F := F)).result_of_not_mem _ (b := b) (fun e => h (Finset.mem_singleton.mp e)), V3_ne d m ho, V2_keep d m hx hw]

theorem hX : (opX (F := F)).bufs ⊆ S7 := show ({r0, rx} : Finset (DevRef τ sig)) ⊆ S7 by decide
theorem hW : (opW (F := F)).bufs ⊆ S7 := show ({r2, rw'} : Finset (DevRef τ sig)) ⊆ S7 by decide
theorem hR : (opR (F := F)).bufs ⊆ S7 := show ({ro, rr} : Finset (DevRef τ sig)) ⊆ S7 by decide

/-- The arguments at their launch contents, and the result. -/
abbrev FIN : sProp 𝕄 :=
  iprop((a0L d ↦{fullShare} m (a0L d)) ∗ (a1L d ↦{fullShare} m (a1L d)) ∗ (a2L d ↦{fullShare} m (a2L d)) ∗ rL d ↦{fullShare} (res d m : Buf (Elt F) (rL d)))

/-- The call, from the arrays whole to the arrays whole. -/
theorem held_V2 : (held (T d) S7 ((opW (F := F)).result ((opX (F := F)).result (V0 d m))) : sProp 𝕄) ⊢ iprop((bigSep Finset.univ fun c : Fin ((K (F := F)).nCore 0) => (P m).st 0 d c)
    ∗ ((bigSep Finset.univ fun c : Fin ((K (F := F)).nCore 0) => (P m).dn 0 d c) -∗ held (T d) S7 (V3 d m))) := by
  show (held (T d) S7 (V2 d m) : sProp 𝕄) ⊢ _
  rw [held_S7, held_S7, V3_ne d m (show r0 ≠ ro by decide), V3_ne d m (show r1 ≠ ro by decide), V3_ne d m (show r2 ≠ ro by decide),
    V3_ne d m (show rx ≠ ro by decide), V3_ne d m (show rw' ≠ ro by decide), V3_o, V3_ne d m (show rr ≠ ro by decide),
    V2_x, V2_w, V2_keep d m (show ro ≠ rx by decide) (show ro ≠ rw' by decide)]
  show _ ⊢ (iprop((bigSep Finset.univ fun c : Fin 2 => iprop(CoreIn d m c.val ∗ CoreOut d (o0 d m) c.val))
    ∗ ((bigSep Finset.univ fun c : Fin 2 => iprop(CoreIn d m c.val ∗ CoreOut d (o1 d m) c.val)) -∗ _)) : sProp 𝕄)
  iintro ⟨H0, H1, H2, Hx, Hw, Ho, Hr⟩
  ihave H := (whole_cores d m (o0 d m)).1 $$ [Hx Hw Ho]
  · isplitl [Hx]; · iexact Hx
    isplitl [Hw]; · iexact Hw
    iexact Ho
  icases H with ⟨Hc, Hd⟩
  isplitl [Hc]; · iexact Hc
  iintro Hc
  ihave H := (whole_cores d m (o1 d m)).2 $$ [Hc Hd]
  · isplitl [Hc]; · iexact Hc
    iexact Hd
  icases H with ⟨Hx, Hw, Ho⟩
  isplitl [H0]; · iexact H0
  isplitl [H1]; · iexact H1
  isplitl [H2]; · iexact H2
  isplitl [Hx]; · iexact Hx
  isplitl [Hw]; · iexact Hw
  isplitl [Ho]; · iexact Ho
  iexact Hr

theorem held_V4 : (held (T d) S7 ((opR (F := F)).result (V3 d m)) : sProp 𝕄) ⊢ FIN d m := by
  rw [held_S7, V4_r, V4_keep d m (b := r0) (by decide) (by decide) (by decide) (by decide), V4_keep d m (b := r1) (by decide) (by decide) (by decide) (by decide),
    V4_keep d m (b := r2) (by decide) (by decide) (by decide) (by decide)]
  iintro ⟨H0, H1, H2, -, -, -, Hr⟩
  isplitl [H0]; · iexact H0
  isplitl [H1]; · iexact H1
  isplitl [H2]; · iexact H2
  iexact Hr

/-- @main on device `d`'s TensorCore. -/
theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S7) hX (V := V0 d m)) $$ [Hb Hheld]
  · isplitl [Hb]; · iexact Hb
    iexact Hheld
  iintro ⟨Hb, Hheld⟩
  rw [wp_ret]; imodintro
  iapply (wp_hlo_within 𝒱 (SparseCore.T d) none Set.univ (op := opW) (S := S7) hW (V := (opX (F := F)).result (V0 d m))) $$ [Hb Hheld]
  · isplitl [Hb]; · iexact Hb
    iexact Hheld
  iintro ⟨Hb, Hheld⟩
  rw [wp_ret]; imodintro
  ihave Hh := (held_V2 d m) $$ Hheld
  icases Hh with ⟨Hc, Hback⟩
  iapply ((K (F := F)).wp_run (D (F := F)) 𝒱 (EH := EH) (P := P m) κ d 0) $$ [Hst Hc Hback Hb Hts]
  isplitr; · iexact Hctx
  isplitl [Hst]; · iexact Hst
  isplitl [Hc]; · iexact Hc
  iintro ⟨Hst, Hdn⟩
  ihave Hheld := Hback $$ Hdn
  iapply (wp_hlo_within 𝒱 (SparseCore.T d) none Set.univ (op := opR) (S := S7) hR (V := V3 d m)) $$ [Hb Hheld]
  · isplitl [Hb]; · iexact Hb
    iexact Hheld
  iintro ⟨Hb, Hheld⟩
  rw [wp_ret]; imodintro; imodintro
  isplitl [Hst]; · iexact Hst
  isplitl [Hheld]
  · iapply (held_V4 d m); iexact Hheld
  isplitl [Hb] <;> iassumption

def fq (d : Dev nD) (s' : Phys nD τ sig (Elt F)) : Prop :=
  s'.mem.mem (a0L d) = m (a0L d) ∧ s'.mem.mem (a1L d) = m (a1L d) ∧ s'.mem.mem (a2L d) = m (a2L d) ∧ s'.mem.mem (rL d) = (res d m : Buf (Elt F) (rL d))

theorem hfin (s' : Phys nD τ sig (Elt F)) : iprop(FIN d m ∗ SI s') ⊢ (⌜fq m d s'⌝ : sProp 𝕄) := by
  iintro ⟨⟨H0, H1, H2, Hr⟩, HSI⟩
  ihave H := (persistent_entails_right (SI_pointsTo_agree (st := s') (ℓ := a0L d) (I := Finset.univ) (q := fullShare) (f := m (a0L d)))) $$ [HSI H0]
  · isplitl [HSI] <;> iassumption
  icases H with ⟨%h0, HSI, -⟩
  ihave H := (persistent_entails_right (SI_pointsTo_agree (st := s') (ℓ := a1L d) (I := Finset.univ) (q := fullShare) (f := m (a1L d)))) $$ [HSI H1]
  · isplitl [HSI] <;> iassumption
  icases H with ⟨%h1, HSI, -⟩
  ihave H := (persistent_entails_right (SI_pointsTo_agree (st := s') (ℓ := a2L d) (I := Finset.univ) (q := fullShare) (f := m (a2L d)))) $$ [HSI H2]
  · isplitl [HSI] <;> iassumption
  icases H with ⟨%h2, HSI, -⟩
  ihave H := (SI_pointsTo_agree (st := s') (ℓ := rL d) (I := Finset.univ) (q := fullShare) (f := (res d m : Buf (Elt F) (rL d)))) $$ [HSI Hr]
  · isplitl [HSI] <;> iassumption
  icases H with %hr
  ipureintro
  exact ⟨funext fun i => h0 i (Finset.mem_univ i), funext fun i => h1 i (Finset.mem_univ i), funext fun i => h2 i (Finset.mem_univ i),
    funext fun i => hr i (Finset.mem_univ i)⟩

/-! ## The program's run -/

def QC : PUnit × MemSt nD τ sig (Elt F) → Prop := fun r =>
  (∀ d : Dev nD, r.2.mem (a0L d) = m (a0L d) ∧ r.2.mem (a1L d) = m (a1L d) ∧ r.2.mem (a2L d) = m (a2L d) ∧ r.2.mem (rL d) = (res d m : Buf (Elt F) (rL d)))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => FIN d m) (u₀ (F := F)) (sep_elim_left.trans (hu₀ m)) (fun κ d => hmain d m ρ κ) (fq m) (fun d s' => hfin d m s') (QC m)
    (fun _ h hz => ⟨h, hz⟩)

end Cert.KernelIdeal.Lif
end
-- ==== Proof.Ref.Frame.lean ====
/-
  The reference's run leaves its three arguments as they were, and it declares no semaphore.
-/
module

public import proofs.«01_k».proof.Proof.Gen.ReferenceIdeal.Run
public import Idealize.ShloMosaic.Lib.Quiescent

@[expose] public section

noncomputable section

namespace Cert.ReferenceIdeal.Sum

open Idealize.ShloMosaic Idealize.ShloMosaic.TcCoe Idealize.SL.Sem
open Idealize.ShloMosaic.StableHlo
open Cert.ReferenceIdeal.Gen Cert.ReferenceIdeal.Value

variable {F : FTy → Type} [FloatOps F]
variable (m : (ℓ : Loc nD τ sig) → Buf (Elt F) ℓ) (ρ : Dev nD → PrngReg)

/-- A buffer that no stretch writes. -/
structure Kept (r : Ref sig .tc) : Prop where
  pre : ∀ V : Valuation τ sig (Elt F), afterL preI V (Proc.devRef .tc r) = V (Proc.devRef .tc r)
  trip : ∀ V : Valuation τ sig (Elt F), afterL bodyI (after condOps V) (Proc.devRef .tc r) = V (Proc.devRef .tc r)
  post : ∀ V : Valuation τ sig (Elt F), afterL postI (after condOps V) (Proc.devRef .tc r) = V (Proc.devRef .tc r)

theorem Kept.atK {r : Ref sig .tc} (h : Kept (F := F) r) (c : Dev nD) :
    ∀ k, atK m k c (Proc.devRef .tc r) = m (c, Proc.devRef .tc r)
  | 0 => h.pre _
  | k + 1 => (h.trip _).trans (h.atK c k)

theorem Kept.final {r : Ref sig .tc} (h : Kept (F := F) r) (c : Dev nD) :
    finalContents condOps preI bodyI postI 128 m c (Proc.devRef .tc r) = m (c, Proc.devRef .tc r) :=
  (h.post _).trans (h.atK m c 128)

set_option maxRecDepth 20000 in
theorem kept0 : Kept (F := F) main_arg0 := by
  constructor <;> intro V <;> simp only [afterL_cons, afterL_nil] <;> after_reads_simp
set_option maxRecDepth 20000 in
theorem kept1 : Kept (F := F) main_arg1 := by
  constructor <;> intro V <;> simp only [afterL_cons, afterL_nil] <;> after_reads_simp
set_option maxRecDepth 20000 in
theorem kept2 : Kept (F := F) main_arg2 := by
  constructor <;> intro V <;> simp only [afterL_cons, afterL_nil] <;> after_reads_simp

/-- The run: the result at the fold, the arguments kept, every counter zero. -/
theorem run_main [∀ e, Nonempty (Elt F e)] :
    θ_run (defs (F := F)) (onTc (τ := τ) (main (F := F))) ⟨m, fun _ => 0, ρ⟩ (fun r => (∀ c : Dev nD,
      r.2.mem ((c.tc : Thread nD τ).loc main_v26) = finalContents condOps preI bodyI postI 128 m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h c main_v26 rfl, (h c main_arg0 rfl).trans (kept0.final m c),
    (h c main_arg1 rfl).trans (kept1.final m c), (h c main_arg2 rfl).trans (kept2.final m c)⟩,
    Idealize.ShloMosaic.sem_eq_zero_of_no_sems (by decide) r.2⟩) (run_fold m ρ)

end Cert.ReferenceIdeal.Sum

end
-- ==== Proof.Frames.lean ====
/-
  The frame claims: the kernel's run (both programs are one text) and the reference's.
-/
module

public import proofs.«01_k».proof.Defs
public import proofs.«01_k».proof.Proof.Gen.Kernel
public import proofs.«01_k».proof.Proof.Lif.Main
public import proofs.«01_k».proof.Proof.Ref.Frame
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Cert.KernelIdeal.Lif.run_main (F := Bits) m ρ)

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Lif.run_main (F := Ideal) m ρ)

theorem frame_ref : Cert.quiescent_ReferenceIdeal := fun m ρ _ =>
  (θ_run Cert.ReferenceIdeal.defs _ _).mono (fun _ h => ⟨fun c => (h.1 c).2, h.2⟩)
    (Cert.ReferenceIdeal.Sum.run_main (F := Ideal) m ρ)

end Cert.Proof

end
-- ==== Proof.Drawn.lean ====
/-
  What the precondition says of the three arguments: the delays are the fixed table's, the inputs and the weight finite.
-/
module

public import proofs.«01_k».proof.Pre_drawn
public import Idealize.ShloMosaic.Lib.ReduceAll
public import Idealize.ShloMosaic.Lib.ValueIdx
public import Idealize.ShloMosaic.Lib.StableHlo.Predicate
public import Idealize.ShloMosaic.Lib.IdealHost

@[expose] public section

noncomputable section

namespace Cert.Drawn

open Idealize.ShloMosaic Idealize.ShloMosaic.ValueIdx
open Cert.Pre_drawn (S_ S128x2 S128x32x32x2)

instance facts : Cert.Pre_drawn.Facts := ⟨by decide, by decide, by decide, by decide, by decide⟩

/-- The table's delay of feature `f` in channel `h`. -/
def dl (f : Fin 128) (h : Fin 2) : Fin 65 :=
  if h = 0 then ⟨f.val - 63, by have := f.isLt; omega⟩ else ⟨64 - f.val, by omega⟩

theorem table_word : ∀ (f : Fin 128) (h : Fin 2),
    Scalar.select (IntOp.cmpi .eq (BitVec.ofNat 32 h.val) 0#32) (IntOp.maxsi (BitVec.ofNat 32 f.val - 63#32) 0#32)
      (IntOp.maxsi (64#32 - BitVec.ofNat 32 f.val) 0#32) = BitVec.ofNat 32 (dl f h).val := by decide +kernel

theorem inf_top : Ideal.ofBits .f32 0x7F800000#32 = ⊤ := by simp [Ideal.ofBits, Ideal.ieee]

/-- A value whose absolute value is below infinity is a real. -/
theorem real_of_lt {x : EReal} (h : Ideal.cmp .olt (max x (-x)) (Ideal.ofBits .f32 0x7F800000#32) = 1#1) : ∃ r : ℝ, x = (r : EReal) := by
  rw [inf_top] at h
  have h' : max x (-x) < ⊤ := by
    by_contra hn
    simp [Ideal.cmp, hn] at h
  induction x using EReal.rec with
  | bot => simp at h'
  | coe r => exact ⟨r, rfl⟩
  | top => simp at h'

theorem read (a0 : FVec Ideal S128x32x32x2 .f32) (a1 : IVec S128x2 32) (a2 : FVec Ideal S_ .f32)
    (h : Cert.Pre_drawn.fn (F := Ideal) a0 a1 a2 = fun _ => 1#1) :
    (∀ f h, a1 (ix2 f h) = BitVec.ofNat 32 (dl f h).val) ∧ (∀ i, ∃ r : ℝ, (a0 i : EReal) = (r : EReal)) ∧ ∃ r : ℝ, (a2 ix0 : EReal) = (r : EReal) := by
  have : Subsingleton S_.Idx := ⟨fun a b => funext fun k => k.elim0⟩
  have h0 := congrFun h ix0
  obtain ⟨h19, h21⟩ := IntOp.andi_eq_one.mp h0
  obtain ⟨h14, h18⟩ := IntOp.andi_eq_one.mp h19
  refine ⟨fun f h => ?_, fun i => ?_, ?_⟩
  · have e := Host.reduce_andi_all _ _ _ _ _ h14 (ix2 f h)
    exact (StableHlo.Predicate.cmpi_eq_iff.mp e).trans (table_word f h)
  · exact real_of_lt (Host.reduce_andi_all _ _ _ _ _ h18 i)
  · exact real_of_lt h21

end Cert.Drawn

end
-- ==== Proof.Ref.Loop.lean ====
/-
  The reference's loop: after `k` of its 128 trips the carried state is the leaky sum of the first `k` inputs, and the
  output holds the states already passed and zeros after them.
-/
module

public import proofs.«01_k».proof.Proof.Ref.Frame
public import Idealize.ShloMosaic.Lib.WordCmp
public import Idealize.ShloMosaic.Lib.WordArith
public import Idealize.ShloMosaic.Lib.IdealHost
public import Idealize.ShloMosaic.Lib.ValueIdx
public import Idealize.ShloMosaic.Lib.Pipeline.Value

@[expose] public section

noncomputable section

namespace Cert.ReferenceIdeal.Sum

open Idealize.ShloMosaic Idealize.ShloMosaic.TcCoe Idealize.SL.Sem
open Idealize.ShloMosaic.StableHlo
open Idealize.ShloMosaic.ValueIdx
open Cert.ReferenceIdeal.Gen Cert.ReferenceIdeal.Value

/-! ## One row of the time axis -/

theorem slice_row {α : Type} (x : S128x32x32x2.Idx → α) (st : Fin 4 → Int) (k : ℕ) (hk : k < 128) (h0 : st 0 = k) (h1 : st 1 = 0)
    (h2 : st 2 = 0) (h3 : st 3 = 0) (i : S32x32x2.Idx) :
    shapeCast S32x32x2 (Host.dynamicSlice S1x32x32x2 x st sliceFits_S128x32x32x2_S1x32x32x2) shapeCasts_S1x32x32x2_S32x32x2 i
      = x (ix4 ⟨k, hk⟩ (i 0) (i 1) (i 2)) := by
  have hs : S128x32x32x2.Slices ![k, 0, 0, 0] S1x32x32x2 := ⟨rfl, fun a => by
    fin_cases a
    · show k + 1 ≤ 128; omega
    · exact le_refl 32
    · exact le_refl 32
    · exact le_refl 2⟩
  rw [WordCmp.dynamicSlice_eq_extract S1x32x32x2 x st _ ![k, 0, 0, 0] hs (fun a => by fin_cases a <;> assumption)]
  refine (shapeCast_apply _ _ i (ix4 0 (i 0) (i 1) (i 2)) ?_).trans (congrArg x (funext fun a => Fin.ext ?_))
  · rw [Shape.rowMajor_val_four, Shape.rowMajor_val_three]
    show ((0 * 32 + (i 0).val) * 32 + (i 1).val) * 2 + (i 2).val = ((i 0).val * 32 + (i 1).val) * 2 + (i 2).val
    omega
  · fin_cases a
    · show k + 0 = k; rfl
    · show 0 + (i 0).val = (i 0).val; omega
    · show 0 + (i 1).val = (i 1).val; omega
    · show 0 + (i 2).val = (i 2).val; omega

theorem update_row {α : Type} (x : S128x32x32x2.Idx → α) (y : S32x32x2.Idx → α) (st : Fin 4 → Int) (k : ℕ) (hk : k < 128)
    (h0 : st 0 = k) (h1 : st 1 = 0) (h2 : st 2 = 0) (h3 : st 3 = 0) (j : S128x32x32x2.Idx) :
    Host.dynamicUpdateSlice x (broadcastInDim S1x32x32x2 ![1, 2, 3] bcast_S32x32x2_S1x32x32x2_1_2_3 y) st
        updateFits_S128x32x32x2_S1x32x32x2 j
      = if (j 0).val = k then y (ix3 (j 1) (j 2) (j 3)) else x j := by
  have hs : S128x32x32x2.Slices ![k, 0, 0, 0] S1x32x32x2 := ⟨rfl, fun a => by
    fin_cases a
    · show k + 1 ≤ 128; omega
    · exact le_refl 32
    · exact le_refl 32
    · exact le_refl 2⟩
  rw [WordCmp.dynamicUpdateSlice_eq_update x _ st _ ![k, 0, 0, 0] hs (fun a => by fin_cases a <;> assumption)]
  unfold updateSlice
  by_cases h : (j 0).val = k
  · rw [if_pos h, dif_pos]
    · refine congrArg y (funext fun a => Fin.ext ?_)
      fin_cases a <;> rfl
    · intro a
      fin_cases a
      · show k ≤ (j 0).val ∧ (j 0).val < k + 1; omega
      · exact ⟨Nat.zero_le _, (Nat.zero_add 32).symm ▸ (j 1).isLt⟩
      · exact ⟨Nat.zero_le _, (Nat.zero_add 32).symm ▸ (j 2).isLt⟩
      · exact ⟨Nat.zero_le _, (Nat.zero_add 2).symm ▸ (j 3).isLt⟩
  · rw [if_neg h, dif_neg]
    intro hin
    have h' : k ≤ (j 0).val ∧ (j 0).val < k + 1 := hin 0
    omega

variable {F : FTy → Type} [FloatOps F]

/-- The leaky sum of the first `t` inputs. -/
def sst (x : FVec F S128x32x32x2 .f32) (i : S32x32x2.Idx) : ℕ → F .f32
  | 0 => FloatOps.ofBits .f32 0x00000000#32
  | t + 1 => FloatOps.addf (FloatOps.mulf (FloatOps.ofBits .f32 0x3F666666#32) (sst x i t)) (x (ix4 ⟨t % 128, Nat.mod_lt _ (by decide)⟩ (i 0) (i 1) (i 2)))

/-- The four starts of the loop's slices, at trip `k`. -/
theorem starts (V : Valuation τ sig (Elt F)) (k : ℕ) (hk : k < 128) (hV : V (Proc.devRef .tc main_v2_1) = fun _ => Scf.iv 0#32 1#32 k) (a : Fin 4) :
    (((![V (Proc.devRef .tc main_v2_1), constantI S_ 32 0#32, constantI S_ 32 0#32, constantI S_ 32 0#32] : Fin 4 → (⟨S_, .i32⟩ : BufTy).Contents (Elt F))) a (Shape.Idx.first h_S_)).toInt
      = if a = 0 then (k : Int) else 0 := by
  have hw : ∀ k : Fin 128, (Scf.iv 0#32 1#32 k.val : BitVec 32).toInt = k.val := by decide +kernel
  fin_cases a
  · show (V (Proc.devRef .tc main_v2_1) (Shape.Idx.first h_S_) : BitVec 32).toInt = _
    rw [hV]
    exact hw ⟨k, hk⟩
  all_goals rfl

theorem res_at (V : Valuation τ sig (Elt F)) (x : FVec F S128x32x32x2 .f32) (k : ℕ) (hk : k < 128)
    (hV : V (Proc.devRef .tc main_v2_1) = fun _ => Scf.iv 0#32 1#32 k) (h0 : V (Proc.devRef .tc main_v2_0) = x)
    (h2 : ∀ i, (V (Proc.devRef .tc main_v2_2) : FVec F S32x32x2 .f32) i = sst x i k) (i : S32x32x2.Idx) :
    (res_main_while0b_v30 V : FVec F S32x32x2 .f32) i = sst x i (k + 1) := by
  unfold res_main_while0b_v30
  show FloatOps.addf (FloatOps.mulf (FloatOps.ofBits .f32 0x3F666666#32) ((V (Proc.devRef .tc main_v2_2) : FVec F S32x32x2 .f32) i)) (shapeCast S32x32x2 _ _ i) = _
  rw [slice_row _ _ k hk (starts V k hk hV 0) (starts V k hk hV 1) (starts V k hk hV 2) (starts V k hk hV 3), h2, h0]
  show FloatOps.addf _ _ = FloatOps.addf _ _
  refine congrArg (FloatOps.addf _) ?_
  refine congrArg x (funext fun a => ?_)
  fin_cases a
  · exact Fin.ext (Nat.mod_eq_of_lt hk).symm
  all_goals rfl

/-- What one trip leaves in the output. -/
theorem out_at (V : Valuation τ sig (Elt F)) (k : ℕ) (hk : k < 128) (hV : V (Proc.devRef .tc main_v2_1) = fun _ => Scf.iv 0#32 1#32 k)
    (j : S128x32x32x2.Idx) : (afterL bodyI V (Proc.devRef .tc main_v2_3) : FVec F S128x32x32x2 .f32) j
      = if (j 0).val = k then (res_main_while0b_v30 V : FVec F S32x32x2 .f32) (ix3 (j 1) (j 2) (j 3))
        else (V (Proc.devRef .tc main_v2_3) : FVec F S128x32x32x2 .f32) j :=
  (congrFun (trip_main_v2_3 V) j).trans
    (update_row _ _ _ k hk (starts V k hk hV 0) (starts V k hk hV 1) (starts V k hk hV 2) (starts V k hk hV 3) j)

variable (m : (ℓ : Loc nD τ sig) → Buf (Elt F) ℓ) (c : Dev nD)

/-- The input at a device. -/
abbrev x0 : FVec F S128x32x32x2 .f32 := m (c, Proc.devRef .tc main_arg0)

structure Inv (k : ℕ) : Prop where
  in0 : (atK m k c (Proc.devRef .tc main_v2_0) : FVec F S128x32x32x2 .f32) = x0 m c
  state : ∀ i, (atK m k c (Proc.devRef .tc main_v2_2) : FVec F S32x32x2 .f32) i = sst (x0 m c) i k
  out : ∀ j, (atK m k c (Proc.devRef .tc main_v2_3) : FVec F S128x32x32x2 .f32) j
    = if (j 0).val < k then sst (x0 m c) (ix3 (j 1) (j 2) (j 3)) ((j 0).val + 1) else FloatOps.ofBits .f32 0x00000000#32

set_option maxRecDepth 20000 in
theorem inv_zero : Inv m c 0 := by
  constructor
  · show entryContents preI m c (Proc.devRef .tc main_v2_0) = _
    simp only [entryContents, afterL_cons, afterL_nil]
    after_reads_simp
    rfl
  · intro i
    show (entryContents preI m c (Proc.devRef .tc main_v2_2) : FVec F S32x32x2 .f32) i = _
    simp only [entryContents, afterL_cons, afterL_nil]
    after_reads_simp
    rfl
  · intro j
    show (entryContents preI m c (Proc.devRef .tc main_v2_3) : FVec F S128x32x32x2 .f32) j = _
    simp only [entryContents, afterL_cons, afterL_nil]
    after_reads_simp
    rfl

theorem inv_step (k : ℕ) (hk : k < 128) (h : Inv m c k) : Inv m c (k + 1) := by
  have hc := cond_keeps (atK m k c)
  have c0 := (hc main_v2_0 (by decide)).trans h.in0
  have c1 := (hc main_v2_1 (by decide)).trans (atK_ctr m c k)
  have c2 : ∀ i, (after condOps (atK m k c) (Proc.devRef .tc main_v2_2) : FVec F S32x32x2 .f32) i = sst (x0 m c) i k :=
    fun i => (congrFun (hc main_v2_2 (by decide)) i).trans (h.state i)
  constructor
  · exact (trip_main_v2_0 _).trans c0
  · exact fun i => (congrFun (trip_main_v2_2 _) i).trans (res_at _ (x0 m c) k hk c1 c0 c2 i)
  · intro j
    refine (out_at _ k hk c1 j).trans ?_
    by_cases e : (j 0).val = k
    · rw [if_pos e, if_pos (by omega), e]
      exact res_at _ (x0 m c) k hk c1 c0 c2 _
    · rw [if_neg e]
      refine (congrFun (hc main_v2_3 (by decide)) j).trans ((h.out j).trans ?_)
      by_cases l : (j 0).val < k
      · rw [if_pos l, if_pos (by omega)]
      · rw [if_neg l, if_neg (by omega)]

theorem inv_all : ∀ k, k ≤ 128 → Inv m c k
  | 0, _ => inv_zero m c
  | k + 1, h => inv_step m c k (by omega) (inv_all k (by omega))

/-- What the loop leaves: at each time the leaky sum up to and with it. -/
theorem loop_out (j : S128x32x32x2.Idx) : (atK m 128 c (Proc.devRef .tc main_v2_3) : FVec F S128x32x32x2 .f32) j
    = sst (x0 m c) (ix3 (j 1) (j 2) (j 3)) ((j 0).val + 1) :=
  ((inv_all m c 128 (le_refl _)).out j).trans (if_pos (j 0).isLt)

end Cert.ReferenceIdeal.Sum

end
-- ==== Proof.Ref.Post.lean ====
/-
  What the reference's operations after its loop leave, stretch by stretch and read at an index: the filtered values
  masked, the rolled time, the gather along time, the sum over the two channels and the product with the weight.
-/
module

public import proofs.«01_k».proof.Proof.Gen.ReferenceIdeal.Run
public import Idealize.ShloMosaic.Lib.ReduceAll
public import Idealize.ShloMosaic.Lib.IdealHost
public import Idealize.ShloMosaic.Lib.ValueIdx
public import Idealize.ShloMosaic.Lib.Pipeline.Value

@[expose] public section

noncomputable section

namespace Cert.ReferenceIdeal.Sum

open Idealize.ShloMosaic Idealize.ShloMosaic.TcCoe Idealize.SL.Sem
open Idealize.ShloMosaic.StableHlo
open Idealize.ShloMosaic.ValueIdx
open Cert.ReferenceIdeal.Gen Cert.ReferenceIdeal.Value

variable {F : FTy → Type} [FloatOps F]

abbrev S5 : Shape := S128x32x32x128x2
abbrev D5 : Shape := S128x1x1x128x2

/-- The time as a rank-5 array, read at an index. -/
theorem time5 (j : S128x1x1x1x1.Idx) : (shapeCast S128x1x1x1x1 (iotaInDim S128 32 0) shapeCasts_S128_S128x1x1x1x1 : IVec S128x1x1x1x1 32) j = BitVec.ofNat 32 (j 0).val := by
  refine (shapeCast_apply _ _ j (ix1 (j 0)) ?_).trans rfl
  rw [Shape.rowMajor_val_one, Shape.rowMajor_val_five]
  have h1 : (j 1).val < 1 := (j 1).isLt
  have h2 : (j 2).val < 1 := (j 2).isLt
  have h3 : (j 3).val < 1 := (j 3).isLt
  have h4 : (j 4).val < 1 := (j 4).isLt
  show (j 0).val = ((((j 0).val * 1 + (j 1).val) * 1 + (j 2).val) * 1 + (j 3).val) * 1 + (j 4).val
  omega

/-- The delays as a rank-5 array, read at an index. -/
theorem delay5 (x : IVec S128x2 32) (j : S1x1x1x128x2.Idx) : (shapeCast S1x1x1x128x2 x shapeCasts_S128x2_S1x1x1x128x2 : IVec S1x1x1x128x2 32) j = x (ix2 (j 3) (j 4)) := by
  refine shapeCast_apply _ _ j (ix2 (j 3) (j 4)) ?_
  rw [Shape.rowMajor_val_two, Shape.rowMajor_val_five]
  have h0 : (j 0).val < 1 := (j 0).isLt
  have h1 : (j 1).val < 1 := (j 1).isLt
  have h2 : (j 2).val < 1 := (j 2).isLt
  show (j 3).val * 2 + (j 4).val = ((((j 0).val * 1 + (j 1).val) * 1 + (j 2).val) * 128 + (j 3).val) * 2 + (j 4).val
  omega

variable (W : Valuation τ sig (Elt F))

set_option maxRecDepth 20000 in
theorem s1_v4 (i : S5.Idx) : (after hostOps0_1 W (Proc.devRef .tc main_v4) : FVec F S5 .f32) i
    = (W (Proc.devRef .tc main_v2_3) : FVec F S128x32x32x2 .f32) (ix4 (i 0) (i 1) (i 2) (i 4)) := by
  after_reads_simp
  refine congrArg (W (Proc.devRef .tc main_v2_3) : FVec F S128x32x32x2 .f32) (funext fun a => ?_)
  fin_cases a <;> rfl

set_option maxRecDepth 20000 in
theorem s1_v13 (i : S5.Idx) : (after hostOps0_1 W (Proc.devRef .tc main_v13) : IVec S5 1) i
    = IntOp.cmpi .sge (BitVec.ofNat 32 (i 0).val) (128#32 - (W (Proc.devRef .tc main_arg1) : IVec S128x2 32) (ix2 (i 3) (i 4))) := by
  after_reads_simp
  show IntOp.cmpi .sge ((shapeCast S128x1x1x1x1 (iotaInDim S128 32 0) shapeCasts_S128_S128x1x1x1x1 : IVec S128x1x1x1x1 32) _)
    (128#32 - (shapeCast S1x1x1x128x2 (W (Proc.devRef .tc main_arg1) : IVec S128x2 32) shapeCasts_S128x2_S1x1x1x128x2 : IVec S1x1x1x128x2 32) _) = _
  rw [time5, delay5]
  rfl

theorem s1_cst (i : S_.Idx) : (after hostOps0_1 W (Proc.devRef .tc main_cst_2) : FVec F S_ .f32) i = FloatOps.ofBits .f32 0x00000000#32 := by
  after_reads_simp
  rfl

theorem s2_v14 (i : S5.Idx) : (after hostOps0_2 W (Proc.devRef .tc main_v14) : FVec F S5 .f32) i
    = Scalar.select ((W (Proc.devRef .tc main_v13) : IVec S5 1) i) ((W (Proc.devRef .tc main_cst_2) : FVec F S_ .f32) ix0) ((W (Proc.devRef .tc main_v4) : FVec F S5 .f32) i) := by
  after_reads_simp
  refine congrArg (fun z => Scalar.select _ z _) (congrArg (W (Proc.devRef .tc main_cst_2) : FVec F S_ .f32) (funext fun a => a.elim0))

set_option maxRecDepth 20000 in
theorem s3_v20 (i : D5.Idx) : (after hostOps0_3 W (Proc.devRef .tc main_v20) : IVec D5 32) i
    = BitVec.ofNat 32 (i 0).val - (W (Proc.devRef .tc main_arg1) : IVec S128x2 32) (ix2 (i 3) (i 4)) := by
  after_reads_simp
  show (shapeCast S128x1x1x1x1 (iotaInDim S128 32 0) shapeCasts_S128_S128x1x1x1x1 : IVec S128x1x1x1x1 32) _
    - (shapeCast S1x1x1x128x2 (W (Proc.devRef .tc main_arg1) : IVec S128x2 32) shapeCasts_S128x2_S1x1x1x128x2 : IVec S1x1x1x128x2 32) _ = _
  rw [time5, delay5]
  rfl

theorem s3_c3 (i : S_.Idx) : (after hostOps0_3 W (Proc.devRef .tc main_c_3) : IVec S_ 32) i = 128#32 := by
  after_reads_simp
  rfl

/-- The remainder with the sign of the divisor, on words. -/
def modW (a n : BitVec 32) : BitVec 32 :=
  let n' := Scalar.select (IntOp.cmpi .eq n 0#32) 1#32 n
  let r := IntOp.remsi .host a n'
  Scalar.select (IntOp.andi (IntOp.cmpi .ne (IntOp.cmpi .slt r 0#32) (IntOp.cmpi .slt n' 0#32)) (IntOp.cmpi .ne r 0#32)) (r + n') r

set_option maxRecDepth 20000 in
theorem s4_v21 (i : D5.Idx) (hc : ∀ j, (W (Proc.devRef .tc main_c_3) : IVec S_ 32) j = 128#32) : (after hostOps0_4 W (Proc.devRef .tc main_v21) : IVec D5 32) i
    = modW ((W (Proc.devRef .tc main_v20) : IVec D5 32) i) 128#32 := by
  after_reads_simp
  have e : (W (Proc.devRef .tc main_c_3) : IVec S_ 32) = fun _ => 128#32 := funext hc
  generalize (W (Proc.devRef .tc main_c_3) : IVec S_ 32) = c at e
  subst e
  rfl

set_option maxRecDepth 20000 in
theorem s5_v22 (i : S5.Idx) : (after hostOps0_5 W (Proc.devRef .tc main_v22) : IVec S5 32) i
    = (W (Proc.devRef .tc main_v21) : IVec D5 32) (ix5 (i 0) 0 0 (i 3) (i 4)) := by
  after_reads_simp
  refine congrArg (W (Proc.devRef .tc main_v21) : IVec D5 32) (funext fun a => ?_)
  fin_cases a <;> rfl

/-! ## The gather along time -/

abbrev S6 : Shape := S128x32x32x128x2x1

/-- The start index's place of a result index. -/
abbrev up (i : S5.Idx) : S6.Idx :=
  fun a => match a with
    | ⟨0, _⟩ => ⟨(i 0).val, (i 0).isLt⟩ | ⟨1, _⟩ => ⟨(i 1).val, (i 1).isLt⟩ | ⟨2, _⟩ => ⟨(i 2).val, (i 2).isLt⟩
    | ⟨3, _⟩ => ⟨(i 3).val, (i 3).isLt⟩ | ⟨4, _⟩ => ⟨(i 4).val, (i 4).isLt⟩ | ⟨5, _⟩ => ⟨0, Nat.one_pos⟩

abbrev gd : GatherDims S5 S6 S5 := gather_S128x32x32x128x2_S128x32x32x128x2x1_S128x32x32x128x2_n_0_1234_1234_0_5_11111

theorem gather5 {α : Type} (x : S5.Idx → α) (idx : IVec S6 32) (i : S5.Idx) (k : Fin 128) (hk : (idx (up i)).toInt = k.val) :
    Host.gather gd x idx i = x (ix5 k (i 1) (i 2) (i 3) (i 4)) := by
  unfold Host.gather
  congr 1
  funext a
  refine Fin.ext ?_
  show gd.start i idx a + gd.batchCoord i a + gd.offCoord i a = _
  have h01 : a = 0 ∨ a ∈ ([1, 2, 3, 4] : List (Fin 5)) := by revert a; decide
  rcases h01 with rfl | ha
  · rw [GatherDims.batchCoord_eq_zero _ _ _ (show (0 : Fin 5) ∉ ([1, 2, 3, 4] : List (Fin 5)) by decide),
      GatherDims.offCoord_eq_zero _ _ _ (fun h => ((GatherDims.mem_sKept _ _).mp h).1 (List.mem_singleton.mpr rfl))]
    simp only [Nat.add_zero]
    unfold GatherDims.start
    rw [dif_pos (show (0 : Fin 5) ∈ gd.startIndexMap from List.mem_singleton.mpr rfl)]
    have hsi : gd.siIdx i ⟨List.idxOf (0 : Fin 5) gd.startIndexMap,
        List.idxOf_lt_length_iff.2 (List.mem_singleton.mpr rfl)⟩ = up i := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi, hk]
    show min ((k.val : Int)).toNat 127 = k.val
    have := k.isLt
    omega
  · rw [GatherDims.start_batching _ _ _ _ (show a ∈ gd.operandBatchingDims from ha),
      GatherDims.offCoord_eq_zero _ _ _ (fun h => ((GatherDims.mem_sKept _ _).mp h).2 ha)]
    simp only [Nat.zero_add, Nat.add_zero]
    unfold GatherDims.batchCoord
    rw [dif_pos (show a ∈ gd.operandBatchingDims from ha)]
    match a, ha with
    | ⟨0, _⟩, h => exact absurd (show (0 : Fin 5) ∈ ([1, 2, 3, 4] : List (Fin 5)) from h) (by decide)
    | ⟨1, _⟩, _ => rfl
    | ⟨2, _⟩, _ => rfl
    | ⟨3, _⟩, _ => rfl
    | ⟨4, _⟩, _ => rfl

theorem cast6 (x : IVec S5 32) (i : S5.Idx) : (shapeCast S6 x shapeCasts_S128x32x32x128x2_S128x32x32x128x2x1 : IVec S6 32) (up i) = x i := by
  refine shapeCast_apply _ _ _ i ?_
  rw [Shape.rowMajor_val_five, Shape.rowMajor_val_succ, Shape.rowMajor_val_five]
  show (((((i 0).val * 32 + (i 1).val) * 32 + (i 2).val) * 128 + (i 3).val) * 2 + (i 4).val)
    = (i 0).val * 262144 + (((((i 1).val * 32 + (i 2).val) * 128 + (i 3).val) * 2 + (i 4).val) * 1 + 0)
  omega

theorem up_surj (j : S6.Idx) : ∃ i : S5.Idx, j = up i := by
  refine ⟨ix5 (j 0) (j 1) (j 2) (j 3) (j 4), funext fun a => Fin.ext ?_⟩
  match a with
  | ⟨0, _⟩ => rfl
  | ⟨1, _⟩ => rfl
  | ⟨2, _⟩ => rfl
  | ⟨3, _⟩ => rfl
  | ⟨4, _⟩ => rfl
  | ⟨5, _⟩ => exact Nat.lt_one_iff.mp (j 5).isLt

/-- Words below 128 are left by the wrap of negative indices and pass the range test. -/
theorem in_range : ∀ k : Fin 128,
    Scalar.select (IntOp.cmpi .slt (BitVec.ofNat 32 k.val) 0#32) (BitVec.ofNat 32 k.val + 128#32) (BitVec.ofNat 32 k.val) = BitVec.ofNat 32 k.val
    ∧ IntOp.andi (IntOp.cmpi .sge (BitVec.ofNat 32 k.val) 0#32) (IntOp.cmpi .sle (BitVec.ofNat 32 k.val) 127#32) = 1#1
    ∧ (BitVec.ofNat 32 k.val).toInt = k.val := by decide +kernel

/-- The gather's start indices. -/
abbrev w4 (v22 : IVec S5 32) : IVec S5 32 :=
  select (cmpi .slt v22 (broadcastInDim S128x32x32x128x2 ![] bcast_S_S128x32x32x128x2 (constantI S_ 32 0#32)))
    (addi v22 (broadcastInDim S128x32x32x128x2 ![] bcast_S_S128x32x32x128x2 (constantI S_ 32 128#32))) v22

abbrev w5 (v22 : IVec S5 32) : IVec S6 32 := shapeCast S6 (w4 v22) shapeCasts_S128x32x32x128x2_S128x32x32x128x2x1

abbrev w11 (v22 : IVec S5 32) : IVec S6 1 :=
  andi (cmpi .sge (w5 v22) (broadcastInDim S128x32x32x128x2x1 ![] bcast_S_S128x32x32x128x2x1 (constantI S_ 32 0#32)))
    (cmpi .sle (w5 v22) (broadcastInDim S128x32x32x128x2x1 ![0, 1, 2, 3, 4, 5] bcast_S1x1x1x1x1x1_S128x32x32x128x2x1_0_1_2_3_4_5
      (broadcastInDim S1x1x1x1x1x1 ![5] bcast_S1_S1x1x1x1x1x1_5 (constantI S1 32 127#32))))

abbrev take5 (v14 : FVec F S5 .f32) (v22 : IVec S5 32) : FVec F S5 .f32 :=
  select (Host.reduce IntOp.andi (w11 v22) (constantI S_ 1 1#1) reducesTo_S128x32x32x128x2x1_S128x32x32x128x2_d5 h_S_)
    (Host.gather gd v14 (w5 v22))
    (broadcastInDim S128x32x32x128x2 ![] bcast_S_S128x32x32x128x2 (constant S_ FTy.f32 2143289344#32))

theorem w5_up (v22 : IVec S5 32) (k : S5.Idx → Fin 128) (hk : ∀ i, v22 i = BitVec.ofNat 32 (k i).val) (i : S5.Idx) :
    w5 v22 (up i) = BitVec.ofNat 32 (k i).val := by
  refine (cast6 _ i).trans ?_
  show Scalar.select (IntOp.cmpi .slt (v22 i) 0#32) (v22 i + 128#32) (v22 i) = _
  rw [hk i]
  exact (in_range (k i)).1

theorem take5_eq (v14 : FVec F S5 .f32) (v22 : IVec S5 32) (k : S5.Idx → Fin 128) (hk : ∀ i, v22 i = BitVec.ofNat 32 (k i).val) (i : S5.Idx) :
    take5 v14 v22 i = v14 (ix5 (k i) (i 1) (i 2) (i 3) (i 4)) := by
  have h12 : Host.reduce IntOp.andi (w11 v22) (constantI S_ 1 1#1) reducesTo_S128x32x32x128x2x1_S128x32x32x128x2_d5 h_S_ i = 1#1 := by
    refine Host.reduce_andi_one _ _ _ _ _ rfl fun j => ?_
    obtain ⟨i', rfl⟩ := up_surj j
    show IntOp.andi (IntOp.cmpi .sge (w5 v22 (up i')) 0#32) (IntOp.cmpi .sle (w5 v22 (up i')) 127#32) = _
    rw [w5_up v22 k hk]
    exact (in_range (k i')).2.1
  show Scalar.select (Host.reduce IntOp.andi (w11 v22) (constantI S_ 1 1#1) reducesTo_S128x32x32x128x2x1_S128x32x32x128x2_d5 h_S_ i)
    (Host.gather gd v14 (w5 v22) i) _ = _
  rw [h12]
  show Host.gather gd v14 (w5 v22) i = _
  refine gather5 v14 (w5 v22) i (k i) ?_
  rw [w5_up v22 k hk]
  exact (in_range (k i)).2.2

set_option maxRecDepth 20000 in
theorem s6_v23 (k : S5.Idx → Fin 128) (hk : ∀ i, (W (Proc.devRef .tc main_v22) : IVec S5 32) i = BitVec.ofNat 32 (k i).val) (i : S5.Idx) :
    (after hostOps0_6 W (Proc.devRef .tc main_v23) : FVec F S5 .f32) i
      = (W (Proc.devRef .tc main_v14) : FVec F S5 .f32) (ix5 (k i) (i 1) (i 2) (i 3) (i 4)) := by
  after_reads_simp
  simp -implicitDefEqProofs only [TRef.ofBuf, TRef.toBuf, cast_eq]
  exact take5_eq _ _ k hk i

/-! ## The sum over the two channels, and the weight -/

theorem s7_v26 (i : S128x32x32x128.Idx) :
    (after hostOps0_7 W (Proc.devRef .tc main_v26) : FVec F S128x32x32x128 .f32) i
      = FloatOps.mulf (Host.reduceAdd (W (Proc.devRef .tc main_v23) : FVec F S5 .f32) (constant S_ .f32 0x00000000#32)
          reducesTo_S128x32x32x128x2_S128x32x32x128_d4 h_S_ i)
        ((W (Proc.devRef .tc main_arg2) : FVec F S_ .f32) ix0) := by
  after_reads_simp
  show FloatOps.mulf _ (broadcastInDim _ _ _ _ i) = _
  rw [broadcastInDim_scalar_apply]

theorem sum2 (x : FVec Ideal S5 .f32) (i : S128x32x32x128.Idx) :
    Host.reduceAdd x (constant S_ .f32 0x00000000#32) reducesTo_S128x32x32x128x2_S128x32x32x128_d4 h_S_ i
      = (0 : EReal) + ((x (ix5 (i 0) (i 1) (i 2) (i 3) 0) : EReal) + x (ix5 (i 0) (i 1) (i 2) (i 3) 1)) := by
  have hr : S5.Reduces [4] S128x32x32x128 := by decide
  rw [hostReduceAdd_apply, Ideal.hostReduceAdd_single _ hr]
  refine congrArg₂ (· + ·) Ideal.ofBits_zero_f32 ((Fin.sum_univ_two (M := EReal) (fun k : Fin 2 => x (hr.lift i k))).trans ?_)
  refine congrArg₂ (fun a b : EReal => a + b) (congrArg x (funext fun a => ?_)) (congrArg x (funext fun a => ?_)) <;>
    fin_cases a <;> rfl

end Cert.ReferenceIdeal.Sum
-- ==== Proof.Ref.Value.lean ====
/-
  The reference's result at an index, once its delays are given as numbers up to 64: the two channels' leaky sums, each
  read back by its delay (zero where the delay reaches before the start), added and multiplied by the weight.
-/
module

public import proofs.«01_k».proof.Proof.Ref.Loop
public import proofs.«01_k».proof.Proof.Ref.Post

@[expose] public section

noncomputable section

namespace Cert.ReferenceIdeal.Sum

open Idealize.ShloMosaic Idealize.ShloMosaic.TcCoe Idealize.SL.Sem
open Idealize.ShloMosaic.StableHlo
open Idealize.ShloMosaic.ValueIdx
open Cert.ReferenceIdeal.Gen Cert.ReferenceIdeal.Value

/-- The time that the rolled read of time `t` at delay `d` takes. -/
def back (t : Fin 128) (d : Fin 65) : Fin 128 := ⟨(t.val + 128 - d.val) % 128, Nat.mod_lt _ (by decide)⟩

theorem back_word : ∀ (t : Fin 128) (d : Fin 65),
    modW (BitVec.ofNat 32 t.val - BitVec.ofNat 32 d.val) 128#32 = BitVec.ofNat 32 (back t d).val := by decide +kernel

theorem mask_word : ∀ (t : Fin 128) (d : Fin 65),
    IntOp.cmpi .sge (BitVec.ofNat 32 (back t d).val) (128#32 - BitVec.ofNat 32 d.val) = if d.val ≤ t.val then 0#1 else 1#1 := by decide +kernel

theorem back_val (t : Fin 128) (d : Fin 65) (h : d.val ≤ t.val) : (back t d).val = t.val - d.val := by
  have := t.isLt
  show (t.val + 128 - d.val) % 128 = _
  omega

variable {F : FTy → Type} [FloatOps F] (W : Valuation τ sig (Elt F))

/-! ## What the stretches between leave alone -/

set_option maxRecDepth 20000 in
theorem s1_arg1 : after hostOps0_1 W (Proc.devRef .tc main_arg1) = W (Proc.devRef .tc main_arg1) := by after_reads_simp
set_option maxRecDepth 20000 in
theorem s2_arg1 : after hostOps0_2 W (Proc.devRef .tc main_arg1) = W (Proc.devRef .tc main_arg1) := by after_reads_simp
set_option maxRecDepth 20000 in
theorem s3_v14 : after hostOps0_3 W (Proc.devRef .tc main_v14) = W (Proc.devRef .tc main_v14) := by after_reads_simp
set_option maxRecDepth 20000 in
theorem s4_v14 : after hostOps0_4 W (Proc.devRef .tc main_v14) = W (Proc.devRef .tc main_v14) := by after_reads_simp
set_option maxRecDepth 20000 in
theorem s5_v14 : after hostOps0_5 W (Proc.devRef .tc main_v14) = W (Proc.devRef .tc main_v14) := by after_reads_simp
set_option maxRecDepth 20000 in
theorem s16_arg2 : after hostOps0_6 (after hostOps0_5 (after hostOps0_4 (after hostOps0_3 (after hostOps0_2 (after hostOps0_1 W)))))
    (Proc.devRef .tc main_arg2) = W (Proc.devRef .tc main_arg2) := by after_reads_simp

variable (D : Fin 128 → Fin 2 → Fin 65)

/-- The masked values, rolled. -/
theorem rolled (hD : ∀ f h, (W (Proc.devRef .tc main_arg1) : IVec S128x2 32) (ix2 f h) = BitVec.ofNat 32 (D f h).val) (i : S5.Idx) :
    (after hostOps0_6 (after hostOps0_5 (after hostOps0_4 (after hostOps0_3 (after hostOps0_2 (after hostOps0_1 W)))))
      (Proc.devRef .tc main_v23) : FVec F S5 .f32) i
    = if (D (i 3) (i 4)).val ≤ (i 0).val
      then (W (Proc.devRef .tc main_v2_3) : FVec F S128x32x32x2 .f32) (ix4 (back (i 0) (D (i 3) (i 4))) (i 1) (i 2) (i 4))
      else FloatOps.ofBits .f32 0x00000000#32 := by
  rw [s6_v23 _ (fun i => back (i 0) (D (i 3) (i 4))) (fun i => ?_) i]
  · rw [s5_v14, s4_v14, s3_v14, s2_v14, s1_v13, s1_cst, s1_v4]
    refine (congrArg (fun z => Scalar.select (IntOp.cmpi .sge (BitVec.ofNat 32 (back (i 0) (D (i 3) (i 4))).val) (128#32 - z))
      (FloatOps.ofBits .f32 0x00000000#32) ((W (Proc.devRef .tc main_v2_3) : FVec F S128x32x32x2 .f32)
        (ix4 (back (i 0) (D (i 3) (i 4))) (i 1) (i 2) (i 4)))) (hD (i 3) (i 4))).trans ?_
    refine (congrArg (fun z => Scalar.select z (FloatOps.ofBits .f32 0x00000000#32) ((W (Proc.devRef .tc main_v2_3) : FVec F S128x32x32x2 .f32)
        (ix4 (back (i 0) (D (i 3) (i 4))) (i 1) (i 2) (i 4)))) (mask_word (i 0) (D (i 3) (i 4)))).trans ?_
    split_ifs <;> rfl
  · rw [s5_v22, s4_v21 _ _ (fun j => by rw [s3_c3]), s3_v20, s2_arg1, s1_arg1]
    exact (congrArg (fun z => modW (BitVec.ofNat 32 (i 0).val - z) 128#32) (hD (i 3) (i 4))).trans (back_word (i 0) (D (i 3) (i 4)))

/-- One channel's delayed value in the reference: the leaky sum `d` steps ago, zero before the start. -/
def dly (x : FVec F S128x32x32x2 .f32) (t : ℕ) (n c : Fin 32) (h : Fin 2) (d : ℕ) : F .f32 :=
  if d ≤ t then sst x (ix3 n c h) (t - d + 1) else FloatOps.ofBits .f32 0x00000000#32

/-- The reference's result at an index. -/
theorem final_at (m : (ℓ : Loc nD τ sig) → Buf (Elt Ideal) ℓ) (c : Dev nD)
    (hD : ∀ f h, (m (c, Proc.devRef .tc main_arg1) : IVec S128x2 32) (ix2 f h) = BitVec.ofNat 32 (D f h).val) (i : S128x32x32x128.Idx) :
    (finalContents condOps preI bodyI postI 128 m c (Proc.devRef .tc main_v26) : FVec Ideal S128x32x32x128 .f32) i
      = (((0 : EReal) + ((dly (x0 m c) (i 0).val (i 1) (i 2) 0 (D (i 3) 0).val : EReal) + dly (x0 m c) (i 0).val (i 1) (i 2) 1 (D (i 3) 1).val))
        * ((m (c, Proc.devRef .tc main_arg2) : FVec Ideal S_ .f32) ix0 : EReal) : EReal) := by
  have hc := cond_keeps (atK m 128 c)
  have k1 : after condOps (atK m 128 c) (Proc.devRef .tc main_arg1) = m (c, Proc.devRef .tc main_arg1) :=
    (by after_reads_simp : after condOps (atK m 128 c) (Proc.devRef .tc main_arg1) = atK m 128 c (Proc.devRef .tc main_arg1)).trans (kept1.atK m c 128)
  have k2 : after condOps (atK m 128 c) (Proc.devRef .tc main_arg2) = m (c, Proc.devRef .tc main_arg2) :=
    (by after_reads_simp : after condOps (atK m 128 c) (Proc.devRef .tc main_arg2) = atK m 128 c (Proc.devRef .tc main_arg2)).trans (kept2.atK m c 128)
  have k3 : ∀ j, (after condOps (atK m 128 c) (Proc.devRef .tc main_v2_3) : FVec Ideal S128x32x32x2 .f32) j
      = sst (x0 m c) (ix3 (j 1) (j 2) (j 3)) ((j 0).val + 1) := fun j => (congrFun (hc main_v2_3 (by decide)) j).trans (loop_out m c j)
  show (afterL postI (after condOps (atK m 128 c)) (Proc.devRef .tc main_v26) : FVec Ideal S128x32x32x128 .f32) i = _
  generalize after condOps (atK m 128 c) = W at k1 k2 k3
  simp only [afterL_cons, afterL_nil]
  rw [s7_v26, sum2, s16_arg2, k2]
  have one : ∀ h : Fin 2, (after hostOps0_6 (after hostOps0_5 (after hostOps0_4 (after hostOps0_3 (after hostOps0_2 (after hostOps0_1 W)))))
      (Proc.devRef .tc main_v23) : FVec Ideal S5 .f32) (ix5 (i 0) (i 1) (i 2) (i 3) h) = dly (x0 m c) (i 0).val (i 1) (i 2) h (D (i 3) h).val := by
    intro h
    rw [rolled W D (fun f h => by rw [k1]; exact hD f h)]
    show (if (D (i 3) h).val ≤ (i 0).val then _ else _) = _
    unfold dly
    by_cases e : (D (i 3) h).val ≤ (i 0).val
    · rw [if_pos e, if_pos e, k3]
      show sst _ _ ((back (i 0) (D (i 3) h)).val + 1) = _
      rw [back_val _ _ e]
      rfl
    · rw [if_neg e, if_neg e]
  rw [one 0, one 1]
  rfl

end Cert.ReferenceIdeal.Sum

end
-- ==== Proof.Equal.lean ====
/-
  The kernel's result is the reference's, over exact arithmetic, where the inputs and the weight are finite and the
  delays are the table's.
-/
module

public import proofs.«01_k».proof.Proof.Drawn
public import proofs.«01_k».proof.Proof.Ref.Value
public import proofs.«01_k».proof.Proof.Lif.Main

@[expose] public section

noncomputable section

namespace Cert.Equal

open Idealize.ShloMosaic Idealize.ShloMosaic.TcCoe
open Idealize.ShloMosaic.ValueIdx
open Cert.KernelIdeal (S128x32x64 S128x64 S16777216)
open Cert.KernelIdeal.Facts₀ (shapeCasts_S128x32x32x2_S128x32x64 shapeCasts_S16777216_S128x32x32x128)
open Cert.ReferenceIdeal (S128x32x32x2 S128x32x32x128)
open Cert.KernelIdeal.Lif Cert.ReferenceIdeal.Sum Cert.Drawn

section
variable {F : FTy → Type} [FloatOps F]

/-- The input with its last two axes as one. -/
abbrev flat (x : FVec F S128x32x32x2 .f32) : FVec F S128x32x64 .f32 := shapeCast S128x32x64 x shapeCasts_S128x32x32x2_S128x32x64

theorem flat_at (x : FVec F S128x32x32x2 .f32) (t : Fin 128) (n c : Fin 32) (h : Fin 2) :
    slab (flat x) n.val (sx t.val (2 * c.val + h.val)) = x (ix4 t n c h) := by
  refine shapeCast_apply _ _ _ (ix4 t n c h) ?_
  rw [Shape.rowMajor_val_four, Shape.rowMajor_val_three]
  show ((t.val * 32 + n.val) * 32 + c.val) * 2 + h.val = (t.val % 128 * 32 + n.val % 32) * 64 + (2 * c.val + h.val) % 64
  have := t.isLt; have := n.isLt; have := c.isLt; have := h.isLt
  omega

/-- The kernel's filter state of a column is the reference's of the channel. -/
theorem vst_sst (x : FVec F S128x32x32x2 .f32) (n c : Fin 32) (h : Fin 2) :
    ∀ t, vst (slab (flat x) n.val) (2 * c.val + h.val) t = sst x (ix3 n c h) t
  | 0 => rfl
  | t + 1 => by
    unfold vst sst
    rw [vst_sst x n c h t]
    refine congrArg (FloatOps.addf _) ?_
    refine Eq.trans ?_ (flat_at x ⟨t % 128, Nat.mod_lt _ (by decide)⟩ n c h)
    refine congrArg (slab (flat x) n.val) ?_
    show sx t _ = sx (t % 128) _
    unfold sx
    congr 2
    exact (Nat.mod_mod t 128).symm

end

variable (x : FVec Ideal S128x32x32x2 .f32) (w : Ideal .f32)

theorem zero_f32 : (FloatOps.ofBits .f32 0x00000000#32 : Ideal .f32) = (0 : EReal) := Ideal.ofBits_zero_f32

theorem leak_real : ∃ r : ℝ, (FloatOps.ofBits .f32 0x3F666666#32 : Ideal .f32) = (r : EReal) := by
  suffices h : Ideal.ofBits .f32 0x3F666666#32 = (((15099494 : ℝ) / 16777216 : ℝ) : EReal) from ⟨_, h⟩
  simp [Ideal.ofBits, Ideal.ieee, -EReal.coe_mul]; norm_num

theorem sst_real (hx : ∀ i, ∃ r : ℝ, (x i : EReal) = (r : EReal)) (i : Cert.ReferenceIdeal.S32x32x2.Idx) : ∀ t, ∃ r : ℝ, (sst x i t : EReal) = (r : EReal)
  | 0 => ⟨0, Ideal.ofBits_zero_f32⟩
  | t + 1 => by
    obtain ⟨a, ha⟩ := leak_real
    obtain ⟨b, hb⟩ := sst_real hx i t
    obtain ⟨d, hd⟩ := hx (ix4 ⟨t % 128, Nat.mod_lt _ (by decide)⟩ (i 0) (i 1) (i 2))
    refine ⟨a * b + d, ?_⟩
    show ((FloatOps.ofBits .f32 0x3F666666#32 : Ideal .f32) : EReal) * (sst x i t : EReal) + (x _ : EReal) = _
    rw [hb, hd, EReal.coe_add, EReal.coe_mul]
    exact congrArg (· * (b : EReal) + (d : EReal)) ha

theorem dly_real (hx : ∀ i, ∃ r : ℝ, (x i : EReal) = (r : EReal)) (t : ℕ) (n c : Fin 32) (h : Fin 2) (d : ℕ) :
    ∃ r : ℝ, (dly x t n c h d : EReal) = (r : EReal) := by
  unfold dly
  by_cases e : d ≤ t
  · rw [if_pos e]; exact sst_real x hx _ _
  · rw [if_neg e]; exact ⟨0, Ideal.ofBits_zero_f32⟩

/-- A word of the kernel's padded history, `d` steps back: the delayed value, weighted. -/
theorem hist_dly (t d : ℕ) (hd : d ≤ 64) (n c : Fin 32) (h : Fin 2) :
    (hist (slab (flat x) n.val) w (2 * c.val + h.val) (t + 64 - d) : EReal) = (dly x t n c h d : EReal) * (w : EReal) := by
  unfold hist dly
  by_cases e : d ≤ t
  · rw [if_neg (by omega), if_pos e, vst_sst, show t + 64 - d - 63 = t - d + 1 by omega]
    rfl
  · rw [if_pos (by omega), if_neg e]
    refine Eq.trans zero_f32 ?_
    refine (zero_mul (w : EReal)).symm.trans ?_
    exact congrArg (· * (w : EReal)) zero_f32.symm

theorem distrib (a b v : ℝ) : (a : EReal) * (v : EReal) + (b : EReal) * (v : EReal) = ((0 : EReal) + ((a : EReal) + (b : EReal))) * (v : EReal) := by
  rw [zero_add]
  norm_cast
  ring

theorem oval_eq (hx : ∀ i, ∃ r : ℝ, (x i : EReal) = (r : EReal)) (hw : ∃ r : ℝ, (w : EReal) = (r : EReal)) (t : ℕ) (n c : Fin 32) (f : Fin 128) :
    (oval (slab (flat x) n.val) w t c.val f.val : EReal)
      = ((0 : EReal) + ((dly x t n c 0 (dl f 0).val : EReal) + (dly x t n c 1 (dl f 1).val : EReal))) * (w : EReal) := by
  obtain ⟨a, ha⟩ := dly_real x hx t n c 0 (dl f 0).val
  obtain ⟨b, hb⟩ := dly_real x hx t n c 1 (dl f 1).val
  obtain ⟨v, hv⟩ := hw
  have h0 := hist_dly x w t (dl f 0).val (by have := (dl f 0).isLt; omega) n c 0
  have h1 := hist_dly x w t (dl f 1).val (by have := (dl f 1).isLt; omega) n c 1
  rw [ha, hv] at h0
  rw [hb, hv] at h1
  rw [ha, hb, hv, ← distrib, ← h0, ← h1]
  have hf := f.isLt
  have d0 : (dl f 0).val = f.val - 63 := rfl
  have d1 : (dl f 1).val = 64 - f.val := rfl
  rw [d0, d1]
  unfold oval
  by_cases e : f.val < 64
  · rw [if_pos e, show t + 64 - (f.val - 63) = t + 64 by omega, show t + 64 - (64 - f.val) = t + f.val by omega]
    rfl
  · rw [if_neg e, show t + 64 - (f.val - 63) = t + 127 - f.val by omega, show t + 64 - (64 - f.val) = t + 64 by omega]
    exact add_comm (G := EReal) _ _

/-- The kernel's result at an index. -/
theorem out_at {F : FTy → Type} [FloatOps F] (x : FVec F S128x32x32x2 .f32) (w : F .f32) (i : S128x32x32x128.Idx) :
    (shapeCast S128x32x32x128 (outF (flat x) w) shapeCasts_S16777216_S128x32x32x128 : FVec F S128x32x32x128 .f32) i
      = oval (slab (flat x) (i 1).val) w (i 0).val (i 2).val (i 3).val := by
  have h0 : (i 0).val < 128 := (i 0).isLt
  have h1 : (i 1).val < 32 := (i 1).isLt
  have h2 : (i 2).val < 32 := (i 2).isLt
  have h3 : (i 3).val < 128 := (i 3).isLt
  refine (shapeCast_apply _ _ i (ix1 ⟨(((i 0).val * 32 + (i 1).val) * 32 + (i 2).val) * 128 + (i 3).val, by omega⟩) ?_).trans ?_
  · rw [Shape.rowMajor_val_four, Shape.rowMajor_val_one]
    rfl
  · unfold outF
    show oval (slab (flat x) (((((i 0).val * 32 + (i 1).val) * 32 + (i 2).val) * 128 + (i 3).val) / 4096 % 32)) w
      (((((i 0).val * 32 + (i 1).val) * 32 + (i 2).val) * 128 + (i 3).val) / 131072)
      (((((i 0).val * 32 + (i 1).val) * 32 + (i 2).val) * 128 + (i 3).val) / 128 % 32)
      (((((i 0).val * 32 + (i 1).val) * 32 + (i 2).val) * 128 + (i 3).val) % 128) = _
    generalize (i 0).val = a at *
    generalize (i 1).val = b at *
    generalize (i 2).val = c at *
    generalize (i 3).val = d at *
    congr 1
    · congr 1; omega
    all_goals omega

end Cert.Equal

end
-- ==== Proof.Algebra.lean ====
/-
  The algebraic claim: from equal arguments that meet the precondition, the kernel and the reference leave one result.
-/
module

public import proofs.«01_k».proof.Defs
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem
open Idealize.ShloMosaic.StableHlo Idealize.ShloMosaic.ValueIdx
open Cert.ReferenceIdeal.Gen Cert.ReferenceIdeal.Value

/-- The two results, from one set of arguments. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (x : FVec Ideal Cert.ReferenceIdeal.S128x32x32x2 .f32) (dt : IVec Cert.ReferenceIdeal.S128x2 32) (w : FVec Ideal Cert.ReferenceIdeal.S_ .f32)
    (c : Dev Cert.KernelIdeal.nD)
    (hp : Cert.Pre_drawn.fn (F := Ideal) x dt w = fun _ => 1#1)
    (k0 : m ((c.tc : Thread Cert.KernelIdeal.nD Cert.KernelIdeal.τ).loc Cert.KernelIdeal.main_arg0) = x)
    (k2 : m ((c.tc : Thread Cert.KernelIdeal.nD Cert.KernelIdeal.τ).loc Cert.KernelIdeal.main_arg2) = w)
    (r0 : m' ((c.tc : Thread Cert.ReferenceIdeal.nD Cert.ReferenceIdeal.τ).loc Cert.ReferenceIdeal.main_arg0) = x)
    (r1 : m' ((c.tc : Thread Cert.ReferenceIdeal.nD Cert.ReferenceIdeal.τ).loc Cert.ReferenceIdeal.main_arg1) = dt)
    (r2 : m' ((c.tc : Thread Cert.ReferenceIdeal.nD Cert.ReferenceIdeal.τ).loc Cert.ReferenceIdeal.main_arg2) = w) :
    (finalContents condOps preI bodyI postI 128 m' c (Proc.devRef .tc Cert.ReferenceIdeal.main_v26) : FVec Ideal Cert.ReferenceIdeal.S128x32x32x128 .f32)
      = Cert.KernelIdeal.Lif.res c m := by
  obtain ⟨hd, hx, hw⟩ := Cert.Drawn.read x dt w hp
  funext i
  refine (Cert.ReferenceIdeal.Sum.final_at Cert.Drawn.dl m' c (fun f h => (congrFun r1 (ix2 f h)).trans (hd f h)) i).trans ?_
  have hA : Cert.KernelIdeal.Lif.xA c m = Cert.Equal.flat x := by
    unfold Cert.KernelIdeal.Lif.xA
    exact congrArg (fun z : FVec Ideal Cert.ReferenceIdeal.S128x32x32x2 .f32 => Cert.Equal.flat z) k0
  have hW : Cert.KernelIdeal.Lif.wA c m = w ix0 := by
    unfold Cert.KernelIdeal.Lif.wA
    refine (broadcastInDim_scalar_apply _ _ _).trans (congrFun k2 ix0)
  have hR : Cert.KernelIdeal.Lif.res c m i
      = Cert.KernelIdeal.Lif.oval (Cert.KernelIdeal.Lif.slab (Cert.Equal.flat x) (i 1).val) (w ix0) (i 0).val (i 2).val (i 3).val := by
    unfold Cert.KernelIdeal.Lif.res Cert.KernelIdeal.Lif.o1
    rw [hA, hW]
    exact Cert.Equal.out_at x (w ix0) i
  have h0 : Cert.ReferenceIdeal.Sum.x0 m' c = x := r0
  have h2 : (m' (c, Proc.devRef .tc Cert.ReferenceIdeal.main_arg2) : FVec Ideal Cert.ReferenceIdeal.S_ .f32) = w := r2
  rw [hR, h0, h2]
  exact (Cert.Equal.oval_eq x (w ix0) hx hw (i 0).val (i 1) (i 2) (i 3)).symm

theorem algebraic : Cert.algebraic_KernelIdeal_ReferenceIdeal_pre_drawn := by
  intro m g m' g' hp ha
  refine ⟨fun c => (Cert.KernelIdeal.Lif.res c m : FVec Ideal Cert.KernelIdeal.S128x32x32x128 .f32), ?_, ?_⟩
  · exact (θ_run Cert.KernelIdeal.defs _ _).mono (fun r h c => ⟨(h.1 c).2.2.2, (h.1 c).1, (h.1 c).2.1, (h.1 c).2.2.1⟩)
      (Cert.KernelIdeal.Lif.run_main (F := Ideal) m g)
  · refine (θ_run Cert.ReferenceIdeal.defs _ _).mono (fun r h c => ⟨(h.1 c).1.trans ?_, (h.1 c).2⟩)
      (Cert.ReferenceIdeal.Sum.run_main (F := Ideal) m' g')
    exact results_eq m m' _ _ _ c (hp c) rfl rfl (ha c).1 (ha c).2.1 (ha c).2.2

end Cert.Proof

end
-- ==== Proof.lean ====
/-
  The proof of `Cert.Claim` (Defs.lean): the three programs run to their end with every counter at zero and their
  arguments as they were, the kernel and its ideal are one text, and under the precondition the ideal kernel's result is
  the reference's.
-/
module

public import proofs.«01_k».proof.Defs
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Drawn.facts,
    frame_kernel, frame_ideal, fun m ρ _ => frame_ideal m ρ trivial, frame_ref, fun m ρ _ => frame_ref m ρ trivial,
    trivial, algebraic⟩

end Cert.Proof

end
